-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S28672x3584 : Shape := ⟨2, ![28672, 3584]⟩
abbrev S3584x3584 : Shape := ⟨2, ![3584, 3584]⟩
abbrev S3584x28 : Shape := ⟨2, ![3584, 28]⟩
abbrev S1024x896 : Shape := ⟨2, ![1024, 896]⟩
abbrev S1024x1792 : Shape := ⟨2, ![1024, 1792]⟩
abbrev S896x1792 : Shape := ⟨2, ![896, 1792]⟩
abbrev S896x28 : Shape := ⟨2, ![896, 28]⟩
abbrev S32x1792 : Shape := ⟨2, ![32, 1792]⟩
abbrev S32x28 : Shape := ⟨2, ![32, 28]⟩
abbrev S32x128 : Shape := ⟨2, ![32, 128]⟩
abbrev S32 : Shape := ⟨1, ![32]⟩
abbrev S32x1 : Shape := ⟨2, ![32, 1]⟩

abbrev nBuf : Space → Nat
  | .hbm => 6
  | .vmem => 13
  | .smem => 0
  | _ => 0

abbrev bufTy : (tb : Table) → Fin (tcTables nBuf tb) → BufTy
  | .hbm, ⟨0, _⟩ => ⟨S28672x3584, .bf16⟩
  | .hbm, ⟨1, _⟩ => ⟨S28672x3584, .bf16⟩
  | .hbm, ⟨2, _⟩ => ⟨S3584x3584, .f32⟩
  | .hbm, ⟨3, _⟩ => ⟨S3584x3584, .i8⟩
  | .hbm, ⟨4, _⟩ => ⟨S3584x28, .f32⟩
  | .hbm, ⟨5, _⟩ => ⟨S3584x3584, .f32⟩
  | .local _ .vmem, ⟨0, _⟩ => ⟨S1024x896, .bf16⟩
  | .local _ .vmem, ⟨1, _⟩ => ⟨S1024x896, .bf16⟩
  | .local _ .vmem, ⟨2, _⟩ => ⟨S1024x1792, .bf16⟩
  | .local _ .vmem, ⟨3, _⟩ => ⟨S1024x1792, .bf16⟩
  | .local _ .vmem, ⟨4, _⟩ => ⟨S896x1792, .f32⟩
  | .local _ .vmem, ⟨5, _⟩ => ⟨S896x1792, .f32⟩
  | .local _ .vmem, ⟨6, _⟩ => ⟨S896x1792, .i8⟩
  | .local _ .vmem, ⟨7, _⟩ => ⟨S896x1792, .i8⟩
  | .local _ .vmem, ⟨8, _⟩ => ⟨S896x28, .f32⟩
  | .local _ .vmem, ⟨9, _⟩ => ⟨S896x28, .f32⟩
  | .local _ .vmem, ⟨10, _⟩ => ⟨S896x1792, .f32⟩
  | .local _ .vmem, ⟨11, _⟩ => ⟨S896x1792, .f32⟩
  | .local _ .vmem, ⟨12, _⟩ => ⟨S896x1792, .f32⟩
  | _, _ => ⟨S28672x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 28], ![false, false, false]⟩

def k0_cond2 (i : grid0.Coords) : BitVec 1 :=
  let arg2 : BitVec 32 := BitVec.ofNat 32 (i 2).val
  let c27_i32 : BitVec 32 := 27#32
  let v11 : BitVec 1 := Scalar.cmpi .eq arg2 c27_i32
  let v12 : BitVec 32 := Scalar.extui v11
  let c0_i32_8 : BitVec 32 := 0#32
  let v13 : BitVec 1 := Scalar.cmpi .ne v12 c0_i32_8
  v13

@[reducible] def k0_t1_loop : Scf.Loop 32 :=
  let c0_i32_9 : BitVec 32 := 0#32
  let c28_i32 : BitVec 32 := 28#32
  let v15 : BitVec 32 := Scalar.addi c0_i32_9 c28_i32
  let c1_i32 : BitVec 32 := 1#32
  ⟨c0_i32_9, v15, c1_i32⟩
def k0_mult1 (k0_t1 : Fin k0_t1_loop.trips) : BitVec 32 :=
  let c0_i32_9 : BitVec 32 := 0#32
  let c1_i32 : BitVec 32 := 1#32
  let arg10 : BitVec 32 := Scf.iv c0_i32_9 c1_i32 k0_t1
  let c32_i32 : BitVec 32 := 32#32
  let v16 : BitVec 32 := Scalar.muli arg10 c32_i32
  v16
def k0_off1 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c32_i32 : BitVec 32 := 32#32
  let v16 : BitVec 32 := Scalar.muli arg10 c32_i32
  let v17 : BitVec 32 := v16
  let v18 : Index := Scalar.indexCast v17
  let c0_11 : Index := 0#32
  ![v18.toNat, 0]
def k0_off2 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c32_i32 : BitVec 32 := 32#32
  let v16 : BitVec 32 := Scalar.muli arg10 c32_i32
  let v17 : BitVec 32 := v16
  let v23 : Index := Scalar.indexCast v17
  let c0_13 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S896x1792 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S896x28 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S896x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S28672x3584 : Shape := ⟨2, ![28672, 3584]⟩
abbrev S3584x3584 : Shape := ⟨2, ![3584, 3584]⟩
abbrev S3584x28 : Shape := ⟨2, ![3584, 28]⟩
abbrev S3584x28x128 : Shape := ⟨3, ![3584, 28, 128]⟩
abbrev S3584x28x1 : Shape := ⟨3, ![3584, 28, 1]⟩

abbrev nBuf : Space → Nat
  | .hbm => 8
  | .vmem => 4
  | .smem => 0
  | _ => 0

abbrev bufTy : (tb : Table) → Fin (tcTables nBuf tb) → BufTy
  | .hbm, ⟨0, _⟩ => ⟨S28672x3584, .bf16⟩
  | .hbm, ⟨1, _⟩ => ⟨S28672x3584, .bf16⟩
  | .hbm, ⟨2, _⟩ => ⟨S3584x3584, .f32⟩
  | .hbm, ⟨3, _⟩ => ⟨S3584x3584, .f32⟩
  | .hbm, ⟨4, _⟩ => ⟨S3584x3584, .f32⟩
  | .hbm, ⟨5, _⟩ => ⟨S3584x3584, .i8⟩
  | .hbm, ⟨6, _⟩ => ⟨S3584x28, .f32⟩
  | .hbm, ⟨7, _⟩ => ⟨S3584x3584, .f32⟩
  | .local _ .vmem, ⟨0, _⟩ => ⟨S3584x3584, .f32⟩
  | .local _ .vmem, ⟨1, _⟩ => ⟨S3584x3584, .i8⟩
  | .local _ .vmem, ⟨2, _⟩ => ⟨S3584x28, .f32⟩
  | .local _ .vmem, ⟨3, _⟩ => ⟨S3584x3584, .f32⟩
  | _, _ => ⟨S28672x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3584x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x3584 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KFrameRuns.lean ====
/- What the runs of the printed kernel's frame share: the region's entry, the windows' blocks, the branch conditions. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Fr

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 28) — by arithmetic of the point. -/
theorem hcond0_0 : ∀ t : Fin cfg0.N, cond0_0 (grid0.coords t) ↔ t.val % 28 = 0 :=
  (fun t => by
    have ht : t.val < 224 := Nat.lt_of_lt_of_eq t.isLt N_0
    have e0 : (grid0.coords t 0).val = t.val / 56 % 4 := Pipeline.Grid.coords_val t 0 (by decide) rfl
    have e1 : (grid0.coords t 1).val = t.val / 28 % 2 := Pipeline.Grid.coords_val t 1 (by decide) rfl
    have e2 : (grid0.coords t 2).val = t.val / 1 % 28 := Pipeline.Grid.coords_val t 2 (by decide) rfl
    simp only [cond0_0, e0, e1, e2]
    word_cmp
   : ∀ t : Fin grid0.N, cond0_0 (grid0.coords t) ↔ t.val % 28 = 0)

/-- The condition of the body's `scf.if` 1 (`k0_h2`), from the grid coordinates (the skeleton's scalar
    chain substituted). -/
abbrev cond0_1 (i : grid0.Coords) : Prop := k0_cond2 i = 1#1
/-- It holds at the points ≡ 27 (mod 28) — by arithmetic of the point. -/
theorem hcond0_1 : ∀ t : Fin cfg0.N, cond0_1 (grid0.coords t) ↔ t.val % 28 = 27 :=
  (fun t => by
    have ht : t.val < 224 := Nat.lt_of_lt_of_eq t.isLt N_0
    have e0 : (grid0.coords t 0).val = t.val / 56 % 4 := Pipeline.Grid.coords_val t 0 (by decide) rfl
    have e1 : (grid0.coords t 1).val = t.val / 28 % 2 := Pipeline.Grid.coords_val t 1 (by decide) rfl
    have e2 : (grid0.coords t 2).val = t.val / 1 % 28 := Pipeline.Grid.coords_val t 2 (by decide) rfl
    simp only [cond0_1, k0_cond2, e0, e1, e2]
    word_cmp
   : ∀ t : Fin grid0.N, cond0_1 (grid0.coords t) ↔ t.val % 28 = 27)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x896 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1792 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S896x1792 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S896x1792 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S896x28 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S896x1792 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S896x1792 .f32 := Memref.whole cc0_scratch0
/-- The scratch `arg9` the kernel carries between points, as a view: what it holds is stated through it. -/
abbrev VS0_0 : View sig .tc .vmem S896x1792 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KFrameRunA.lean ====
/- The kernel body at a grid point that clears the accumulator. -/
module

public import proofs.«01_k».proof.Proof.KFrameRuns

@[expose] public section

-- membership in a rectangle of production extents (`View.cover_of_tiled`): the elaborator's structural look
-- recurses once per coordinate of the long axes
set_option maxRecDepth 16384

noncomputable section

namespace Cert.Kernel.Fr

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 28, … 196: 8 of 224), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5) at anything, handed back at some contents nothing names. -/
noncomputable def kernelRun0_A (c : Dev nD) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (hc0 : cond0_0 i) (hc1 : ¬cond0_1 i)
    (x0 : Vec F S1024x896 .bf16) (x1 : Vec F S1024x1792 .bf16) (x2 : Vec F S896x1792 .f32) :
    { LS0 : List (View.Piece (Elt F) S896x1792 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LS0)) -∗ K ⟨⟩))
          ⊢ wp frame (wpE (defs₀ (F := F)) Variants.none c none) E (cc0_grad_quant i arg3 harg3 arg4 harg4 arg5 harg5 arg6 harg6 arg7 harg7 arg8 harg8 arg9 harg9) K } := by
  refine ⟨?_, fun E K => ?run⟩
  case run =>
    simp only [cc0_grad_quant_eq_skeleton]; unfold cc0_grad_quant_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _; iexact HS0

end Cert.Kernel.Fr

end
-- ==== Proof.KFrameRunB.lean ====
/- The kernel body at a grid point that only accumulates. -/
module

public import proofs.«01_k».proof.Proof.KFrameRunA

@[expose] public section

-- membership in a rectangle of production extents (`View.cover_of_tiled`): the elaborator's structural look
-- recurses once per coordinate of the long axes
set_option maxRecDepth 16384

noncomputable section

namespace Cert.Kernel.Fr

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 222: 208 of 224), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5) at anything, handed back at some contents nothing names. -/
noncomputable def kernelRun0_B (c : Dev nD) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (hc0 : ¬cond0_0 i) (hc1 : ¬cond0_1 i)
    (x0 : Vec F S1024x896 .bf16) (x1 : Vec F S1024x1792 .bf16) (x2 : Vec F S896x1792 .f32) (xs0 : Vec F S896x1792 .f32) :
    { LS0 : List (View.Piece (Elt F) S896x1792 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LS0)) -∗ K ⟨⟩))
          ⊢ wp frame (wpE (defs₀ (F := F)) Variants.none c none) E (cc0_grad_quant i arg3 harg3 arg4 harg4 arg5 harg5 arg6 harg6 arg7 harg7 arg8 harg8 arg9 harg9) K } := by
  refine ⟨?_, fun E K => ?run⟩
  case run =>
    simp only [cc0_grad_quant_eq_skeleton]; unfold cc0_grad_quant_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _; iexact HS0

end Cert.Kernel.Fr

end
-- ==== Proof.KFrameRunC.lean ====
/- The kernel body at a grid point that quantises. -/
module

public import proofs.«01_k».proof.Proof.KFrameRunB

@[expose] public section

-- membership in a rectangle of production extents (`View.cover_of_tiled`): the elaborator's structural look
-- recurses once per coordinate of the long axes
set_option maxRecDepth 16384

noncomputable section

namespace Cert.Kernel.Fr

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 27, 55, … 223: 8 of 224), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5) at anything, handed back at some contents nothing names. -/
noncomputable def kernelRun0_C (c : Dev nD) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (hc0 : ¬cond0_0 i) (hc1 : cond0_1 i)
    (x0 : Vec F S1024x896 .bf16) (x1 : Vec F S1024x1792 .bf16) (x2 : Vec F S896x1792 .f32) (xs0 : Vec F S896x1792 .f32) :
    { LS0 : List (View.Piece (Elt F) S896x1792 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LS0)) -∗ K ⟨⟩))
          ⊢ wp frame (wpE (defs₀ (F := F)) Variants.none c none) E (cc0_grad_quant i arg3 harg3 arg4 harg4 arg5 harg5 arg6 harg6 arg7 harg7 arg8 harg8 arg9 harg9) K } := by
  refine ⟨?_, fun E K => ?run⟩
  case run =>
    simp only [cc0_grad_quant_eq_skeleton]; unfold cc0_grad_quant_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _; iexact HS0

end Cert.Kernel.Fr

end
-- ==== Proof.KFrame.lean ====
/- The printed kernel's frame: it ends, and leaves its arguments as they were. -/
module

public import proofs.«01_k».proof.Proof.KFrameRunC
public import Idealize.ShloMosaic.Lib.Claim

@[expose] public section

-- membership in a rectangle of production extents (`View.cover_of_tiled`): the elaborator's structural look
-- recurses once per coordinate of the long axes
set_option maxRecDepth 16384

noncomputable section

namespace Cert.Kernel.Fr

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: 2 pieces of `S896x1792` tiling it (Lib/Ring.lean `Piece.tiledL`). -/
theorem scover0_A_0 (c : Dev nD) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (hc0 : cond0_0 i) (hc1 : ¬cond0_1 i)
    (x0 : Vec F S1024x896 .bf16) (x1 : Vec F S1024x1792 .bf16) (x2 : Vec F S896x1792 .f32) (y : S896x1792.Idx) :
    ∃ pc ∈ (kernelRun0_A c i arg3 harg3 arg4 harg4 arg5 harg5 arg6 harg6 arg7 harg7 arg8 harg8 arg9 harg9 hc0 hc1 x0 x1 x2).1, y ∈ pc.1.set :=
  View.cover_of_tiledL (kernelRun0_A c i arg3 harg3 arg4 harg4 arg5 harg5 arg6 harg6 arg7 harg7 arg8 harg8 arg9 harg9 hc0 hc1 x0 x1 x2).1 S896x1792.size (by sl_kernel_rfl) y

/-- What case A leaves in scratch `arg9`: its pieces read back over junk. -/
def sout0_A_0 (c : Dev nD) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (hc0 : cond0_0 i) (hc1 : ¬cond0_1 i)
    (x0 : Vec F S1024x896 .bf16) (x1 : Vec F S1024x1792 .bf16) (x2 : Vec F S896x1792 .f32) : Vec F S896x1792 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2).1)

/-- Case B's pieces for scratch `arg9`, which the kernel carries between points, cover it: 1 piece of `S896x1792` tiling it (Lib/Ring.lean `Piece.tiledL`). -/
theorem scover0_B_0 (c : Dev nD) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (hc0 : ¬cond0_0 i) (hc1 : ¬cond0_1 i)
    (x0 : Vec F S1024x896 .bf16) (x1 : Vec F S1024x1792 .bf16) (x2 : Vec F S896x1792 .f32) (xs0 : Vec F S896x1792 .f32) (y : S896x1792.Idx) :
    ∃ pc ∈ (kernelRun0_B c i arg3 harg3 arg4 harg4 arg5 harg5 arg6 harg6 arg7 harg7 arg8 harg8 arg9 harg9 hc0 hc1 x0 x1 x2 xs0).1, y ∈ pc.1.set :=
  View.cover_of_tiledL (kernelRun0_B c i arg3 harg3 arg4 harg4 arg5 harg5 arg6 harg6 arg7 harg7 arg8 harg8 arg9 harg9 hc0 hc1 x0 x1 x2 xs0).1 S896x1792.size (by sl_kernel_rfl) y

/-- What case B leaves in scratch `arg9`: its pieces read back over junk. -/
def sout0_B_0 (c : Dev nD) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (hc0 : ¬cond0_0 i) (hc1 : ¬cond0_1 i)
    (x0 : Vec F S1024x896 .bf16) (x1 : Vec F S1024x1792 .bf16) (x2 : Vec F S896x1792 .f32) (xs0 : Vec F S896x1792 .f32) : Vec F S896x1792 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 xs0).1)

/-- Case C's pieces for scratch `arg9`, which the kernel carries between points, cover it: 1 piece of `S896x1792` tiling it (Lib/Ring.lean `Piece.tiledL`). -/
theorem scover0_C_0 (c : Dev nD) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (hc0 : ¬cond0_0 i) (hc1 : cond0_1 i)
    (x0 : Vec F S1024x896 .bf16) (x1 : Vec F S1024x1792 .bf16) (x2 : Vec F S896x1792 .f32) (xs0 : Vec F S896x1792 .f32) (y : S896x1792.Idx) :
    ∃ pc ∈ (kernelRun0_C c i arg3 harg3 arg4 harg4 arg5 harg5 arg6 harg6 arg7 harg7 arg8 harg8 arg9 harg9 hc0 hc1 x0 x1 x2 xs0).1, y ∈ pc.1.set :=
  View.cover_of_tiledL (kernelRun0_C c i arg3 harg3 arg4 harg4 arg5 harg5 arg6 harg6 arg7 harg7 arg8 harg8 arg9 harg9 hc0 hc1 x0 x1 x2 xs0).1 S896x1792.size (by sl_kernel_rfl) y

/-- What case C leaves in scratch `arg9`: its pieces read back over junk. -/
def sout0_C_0 (c : Dev nD) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (hc0 : ¬cond0_0 i) (hc1 : cond0_1 i)
    (x0 : Vec F S1024x896 .bf16) (x1 : Vec F S1024x1792 .bf16) (x2 : Vec F S896x1792 .f32) (xs0 : Vec F S896x1792 .f32) : Vec F S896x1792 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 xs0).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S896x1792 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩)
  | n + 1, hn =>
    if h0 : (n + 1) % 28 = 0 then
      if h1 : (n + 1) % 28 = 27 then
        False.elim (by have hN : n + 1 < 224 := lt_of_lt_of_eq hn (show cfg0.N = 224 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩)
    else
      if h1 : (n + 1) % 28 = 27 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn))

/-- `outsAt0` at a point of case A: that case's contents. -/
theorem outsAt0_A (c : Dev nD) (t : Fin cfg0.N) (h0 : t.val % 28 = 0) (h1 : ¬t.val % 28 = 27) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 28 = 0) (h1 : ¬t.val % 28 = 27) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 28 = 0) (h1 : t.val % 28 = 27) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)))) ∗ (∃ r, prngReg c r)) := by
  cases n with
  | zero => exact absurd rfl hz
  | succ n => rfl

/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 224 := lt_of_lt_of_eq t.isLt (show cfg0.N = 224 from N_0)
  by_cases h0 : t.val % 28 = 0
  · by_cases h1 : t.val % 28 = 27
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      by_cases hz : t.val = 0
      · rw [PhiS_castSucc m c t, PhiS_zero m c _ _ hz, PhiA0_eq]
        rw [outsAt0_A m c t h0 h1]
        unfold sout0_A_0
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [PhiS_castSucc m c t, PhiS_pos m c _ _ hz]
        rw [outsAt0_A m c t h0 h1]
        unfold sout0_A_0
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
  · by_cases h1 : t.val % 28 = 27
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      by_cases hz : t.val = 0
      · exfalso; have hN : t.val < 224 := lt_of_lt_of_eq t.isLt (show cfg0.N = 224 from N_0); omega
      · rw [PhiS_castSucc m c t, PhiS_pos m c _ _ hz]
        rw [outsAt0_C m c t h0 h1]
        unfold sout0_C_0
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) _).2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      by_cases hz : t.val = 0
      · exfalso; have hN : t.val < 224 := lt_of_lt_of_eq t.isLt (show cfg0.N = 224 from N_0); omega
      · rw [PhiS_castSucc m c t, PhiS_pos m c _ _ hz]
        rw [outsAt0_B m c t h0 h1]
        unfold sout0_B_0
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) _).2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 224 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Fr

end
-- ==== Proof.Trip.lean ====
module

public import proofs.«01_k».proof.Proof.Gen.KernelIdeal.Loops

@[expose] public section
set_option maxRecDepth 65536
noncomputable section
namespace Cert.KernelIdeal.Gen

open Idealize.ShloMosaic Idealize.ShloMosaic.TcCoe Idealize.ShloMosaic.Tactic
open Idealize.SL Idealize.SL.RA Idealize.SL.BI
variable {F : FTy → Type} [FloatOps F]

/-- The scale of one block of 128 columns, row by row. -/
def qScale (vb : FVec F S32x128 .f32) : FVec F S32x1 .f32 :=
  let a : FVec F S32x1 .f32 := shapeCast S32x1 (multiReduction .maximumf [1] S32 (absf vb) 0xFF800000#32 reduces_S32x128_S32 (.inl rfl) rfl : FVec F S32 .f32) shapeCasts_S32_S32x1
  select (cmpf .oeq a (broadcast S32x1 (Scalar.ofBits .f32 0x00000000#32))) (broadcast S32x1 (Scalar.ofBits .f32 0x3F800000#32))
    (divf a (broadcast S32x1 (Scalar.ofBits .f32 0x42FE0000#32)))

/-- The rounded, clipped codes of one block, still floats. -/
def qClip (vb : FVec F S32x128 .f32) : FVec F S32x128 .f32 :=
  minimumf (broadcast S32x128 (Scalar.ofBits .f32 0x42FE0000#32)) (maximumf (broadcast S32x128 (Scalar.ofBits .f32 0xC2FE0000#32))
    (roundeven (divf vb (broadcastTo S32x128 (qScale vb) broadcasts_S32x1_S32x128))))

/-- The codes of one block. -/
def qCode (vb : FVec F S32x128 .f32) : IVec S32x128 8 := fptosi 8 (qClip vb)

/-- What quantising one block leaves out. -/
def qResid (vb : FVec F S32x128 .f32) : FVec F S32x128 .f32 :=
  subf vb (mulf (qClip vb) (broadcastTo S32x128 (qScale vb) broadcasts_S32x1_S32x128))

/-- Block `b`'s scale written into its lane of the scales' rows. -/
def qPut (w : BitVec 32) (sc : FVec F S32x1 .f32) (acc : FVec F S32x28 .f32) : FVec F S32x28 .f32 :=
  select (cmpi .eq (iota .tc S32x28 32 [1] iota_S32x28_d1_w32) (broadcast S32x28 w))
    (broadcastTo S32x28 (shapeCast S32x1 sc shapeCasts_S32x1_S32x1) broadcasts_S32x1_S32x28) acc

/-- The fourteen blocks of 32 rows. -/
def qBlk (v : FVec F S32x1792 .f32) (b : Fin 14) : FVec F S32x128 .f32 :=
  match b with
  | ⟨0, _⟩ => extractStridedSlice S32x128 ![0, 0] v slices_S32x1792_o0_0_S32x128
  | ⟨1, _⟩ => extractStridedSlice S32x128 ![0, 128] v slices_S32x1792_o0_128_S32x128
  | ⟨2, _⟩ => extractStridedSlice S32x128 ![0, 256] v slices_S32x1792_o0_256_S32x128
  | ⟨3, _⟩ => extractStridedSlice S32x128 ![0, 384] v slices_S32x1792_o0_384_S32x128
  | ⟨4, _⟩ => extractStridedSlice S32x128 ![0, 512] v slices_S32x1792_o0_512_S32x128
  | ⟨5, _⟩ => extractStridedSlice S32x128 ![0, 640] v slices_S32x1792_o0_640_S32x128
  | ⟨6, _⟩ => extractStridedSlice S32x128 ![0, 768] v slices_S32x1792_o0_768_S32x128
  | ⟨7, _⟩ => extractStridedSlice S32x128 ![0, 896] v slices_S32x1792_o0_896_S32x128
  | ⟨8, _⟩ => extractStridedSlice S32x128 ![0, 1024] v slices_S32x1792_o0_1024_S32x128
  | ⟨9, _⟩ => extractStridedSlice S32x128 ![0, 1152] v slices_S32x1792_o0_1152_S32x128
  | ⟨10, _⟩ => extractStridedSlice S32x128 ![0, 1280] v slices_S32x1792_o0_1280_S32x128
  | ⟨11, _⟩ => extractStridedSlice S32x128 ![0, 1408] v slices_S32x1792_o0_1408_S32x128
  | ⟨12, _⟩ => extractStridedSlice S32x128 ![0, 1536] v slices_S32x1792_o0_1536_S32x128
  | ⟨13, _⟩ => extractStridedSlice S32x128 ![0, 1664] v slices_S32x1792_o0_1664_S32x128

/-- The codes of 32 rows. -/
def tripCodes (v : FVec F S32x1792 .f32) : IVec S32x1792 8 :=
  concatenate S32x1792 1 [⟨S32x128, qCode (qBlk v 0)⟩, ⟨S32x128, qCode (qBlk v 1)⟩, ⟨S32x128, qCode (qBlk v 2)⟩, ⟨S32x128, qCode (qBlk v 3)⟩, ⟨S32x128, qCode (qBlk v 4)⟩, ⟨S32x128, qCode (qBlk v 5)⟩, ⟨S32x128, qCode (qBlk v 6)⟩, ⟨S32x128, qCode (qBlk v 7)⟩, ⟨S32x128, qCode (qBlk v 8)⟩, ⟨S32x128, qCode (qBlk v 9)⟩, ⟨S32x128, qCode (qBlk v 10)⟩, ⟨S32x128, qCode (qBlk v 11)⟩, ⟨S32x128, qCode (qBlk v 12)⟩, ⟨S32x128, qCode (qBlk v 13)⟩] concatenates_S32x128_S32x128_S32x128_S32x128_S32x128_S32x128_S32x128_S32x128_S32x128_S32x128_S32x128_S32x128_S32x128_S32x128_S32x1792_d1

/-- The residuals of 32 rows. -/
def tripResid (v : FVec F S32x1792 .f32) : FVec F S32x1792 .f32 :=
  concatenate S32x1792 1 [⟨S32x128, qResid (qBlk v 0)⟩, ⟨S32x128, qResid (qBlk v 1)⟩, ⟨S32x128, qResid (qBlk v 2)⟩, ⟨S32x128, qResid (qBlk v 3)⟩, ⟨S32x128, qResid (qBlk v 4)⟩, ⟨S32x128, qResid (qBlk v 5)⟩, ⟨S32x128, qResid (qBlk v 6)⟩, ⟨S32x128, qResid (qBlk v 7)⟩, ⟨S32x128, qResid (qBlk v 8)⟩, ⟨S32x128, qResid (qBlk v 9)⟩, ⟨S32x128, qResid (qBlk v 10)⟩, ⟨S32x128, qResid (qBlk v 11)⟩, ⟨S32x128, qResid (qBlk v 12)⟩, ⟨S32x128, qResid (qBlk v 13)⟩] concatenates_S32x128_S32x128_S32x128_S32x128_S32x128_S32x128_S32x128_S32x128_S32x128_S32x128_S32x128_S32x128_S32x128_S32x128_S32x1792_d1

/-- The scales of 32 rows put into the rows `g` found there, from lane `w` on. -/
def tripScales (w : BitVec 32) (v : FVec F S32x1792 .f32) (g : FVec F S32x28 .f32) : FVec F S32x28 .f32 :=
  (qPut (Scalar.addi w 13#32) (qScale (qBlk v 13))
    (qPut (Scalar.addi w 12#32) (qScale (qBlk v 12))
    (qPut (Scalar.addi w 11#32) (qScale (qBlk v 11))
    (qPut (Scalar.addi w 10#32) (qScale (qBlk v 10))
    (qPut (Scalar.addi w 9#32) (qScale (qBlk v 9))
    (qPut (Scalar.addi w 8#32) (qScale (qBlk v 8))
    (qPut (Scalar.addi w 7#32) (qScale (qBlk v 7))
    (qPut (Scalar.addi w 6#32) (qScale (qBlk v 6))
    (qPut (Scalar.addi w 5#32) (qScale (qBlk v 5))
    (qPut (Scalar.addi w 4#32) (qScale (qBlk v 4))
    (qPut (Scalar.addi w 3#32) (qScale (qBlk v 3))
    (qPut (Scalar.addi w 2#32) (qScale (qBlk v 2))
    (qPut (Scalar.addi w 1#32) (qScale (qBlk v 1))
    (qPut (Scalar.addi w 0#32) (qScale (qBlk v 0))
    (shapeCast S32x28 g shapeCasts_S32x28_S32x28)))))))))))))))

theorem trip_codes (𝒱 : Variants) (c : Dev nD) (bd : Option 𝒱.V) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (k0_h2 : k0_cond2 i = 1#1) (v14 : BitVec 32) (X_arg5 : BufTy.Contents (Elt F) arg5.view.ty) (X_arg9 : BufTy.Contents (Elt F) arg9.view.ty) (k : Fin k0_t1_loop.trips) (f6 : BufTy.Contents (Elt F) arg6.view.ty) (f7 : BufTy.Contents (Elt F) arg7.view.ty) (f8 : BufTy.Contents (Elt F) arg8.view.ty) :
    (trip_k0_t1 (F := F) 𝒱 c bd i arg3 harg3 arg4 harg4 arg5 harg5 arg6 harg6 arg7 harg7 arg8 harg8 arg9 harg9 k0_h2 v14 X_arg5 X_arg9 k).1 f6 f7 f8 = [⟨Rect.unit (s := S896x1792) (k0_off1 k) S32x1792.size (k0_off1_inb i k k0_h2), tripCodes (addf (arg9.view.readAt (Elt F) (Rect.unit (s := S896x1792) (k0_off1 k) S32x1792.size (k0_off1_inb i k k0_h2)).toLoadRect X_arg9) (arg5.view.readAt (Elt F) (Rect.unit (s := S896x1792) (k0_off1 k) S32x1792.size (k0_off1_inb i k k0_h2)).toLoadRect X_arg5))⟩] := by
  unfold trip_k0_t1; rfl

theorem trip_resid (𝒱 : Variants) (c : Dev nD) (bd : Option 𝒱.V) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (k0_h2 : k0_cond2 i = 1#1) (v14 : BitVec 32) (X_arg5 : BufTy.Contents (Elt F) arg5.view.ty) (X_arg9 : BufTy.Contents (Elt F) arg9.view.ty) (k : Fin k0_t1_loop.trips) (f6 : BufTy.Contents (Elt F) arg6.view.ty) (f7 : BufTy.Contents (Elt F) arg7.view.ty) (f8 : BufTy.Contents (Elt F) arg8.view.ty) :
    (trip_k0_t1 (F := F) 𝒱 c bd i arg3 harg3 arg4 harg4 arg5 harg5 arg6 harg6 arg7 harg7 arg8 harg8 arg9 harg9 k0_h2 v14 X_arg5 X_arg9 k).2.2.1 f6 f7 f8 = [⟨Rect.unit (s := S896x1792) (k0_off1 k) S32x1792.size (k0_off1_inb i k k0_h2), tripResid (addf (arg9.view.readAt (Elt F) (Rect.unit (s := S896x1792) (k0_off1 k) S32x1792.size (k0_off1_inb i k k0_h2)).toLoadRect X_arg9) (arg5.view.readAt (Elt F) (Rect.unit (s := S896x1792) (k0_off1 k) S32x1792.size (k0_off1_inb i k k0_h2)).toLoadRect X_arg5))⟩] := by
  unfold trip_k0_t1; rfl

theorem trip_scales (𝒱 : Variants) (c : Dev nD) (bd : Option 𝒱.V) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (k0_h2 : k0_cond2 i = 1#1) (v14 : BitVec 32) (X_arg5 : BufTy.Contents (Elt F) arg5.view.ty) (X_arg9 : BufTy.Contents (Elt F) arg9.view.ty) (k : Fin k0_t1_loop.trips) (f6 : BufTy.Contents (Elt F) arg6.view.ty) (f7 : BufTy.Contents (Elt F) arg7.view.ty) (f8 : BufTy.Contents (Elt F) arg8.view.ty) (hv : v14 = Scalar.muli (BitVec.ofNat 32 (i 1).val) 14#32) :
    (trip_k0_t1 (F := F) 𝒱 c bd i arg3 harg3 arg4 harg4 arg5 harg5 arg6 harg6 arg7 harg7 arg8 harg8 arg9 harg9 k0_h2 v14 X_arg5 X_arg9 k).2.1 f6 f7 f8 = [⟨Rect.unit (s := S896x28) (k0_off2 k) S32x28.size (k0_off2_inb i k k0_h2), tripScales v14 (addf (arg9.view.readAt (Elt F) (Rect.unit (s := S896x1792) (k0_off1 k) S32x1792.size (k0_off1_inb i k k0_h2)).toLoadRect X_arg9) (arg5.view.readAt (Elt F) (Rect.unit (s := S896x1792) (k0_off1 k) S32x1792.size (k0_off1_inb i k k0_h2)).toLoadRect X_arg5)) (arg7.view.readAt (Elt F) (Rect.unit (s := S896x28) (k0_off2 k) S32x28.size (k0_off2_inb i k k0_h2)).toLoadRect f7)⟩] := by
  subst hv; unfold trip_k0_t1; rfl

end Cert.KernelIdeal.Gen
-- ==== Proof.LoopVal.lean ====
module

public import proofs.«01_k».proof.Proof.Trip
public import Idealize.ShloMosaic.Lib.WritesUnit
public import Idealize.ShloMosaic.Lib.ValueIdx
public import Idealize.ShloMosaic.Lib.VecWindow
public import Idealize.ShloMosaic.Lib.Pipeline.Value

@[expose] public section
set_option maxRecDepth 16384
noncomputable section
namespace Cert.KernelIdeal.Gen

open Idealize.ShloMosaic Idealize.ShloMosaic.TcCoe Idealize.ShloMosaic.Tactic
open Idealize.ShloMosaic.ValueIdx
variable {F : FTy → Type} [FloatOps F]

/-- Rows `32 k` to `32 k + 31` of a tile. -/
def rowsOf (W : FVec F S896x1792 .f32) (k : Fin 28) : FVec F S32x1792 .f32 :=
  fun z => W (ix2 ⟨32 * k.val + (z 0).val, by have h : (z 0).val < 32 := (z 0).isLt; omega⟩ (z 1))

/-- The same rows of a tile of scales. -/
def rowsOfS (g : FVec F S896x28 .f32) (k : Fin 28) : FVec F S32x28 .f32 :=
  fun z => g (ix2 ⟨32 * k.val + (z 0).val, by have h : (z 0).val < 32 := (z 0).isLt; omega⟩ (z 1))

/-- The group of 32 rows that a row lies in. -/
def grp (r : Fin 896) : Fin 28 := ⟨r.val / 32, by omega⟩
/-- Its place there. -/
def sub (r : Fin 896) : Fin 32 := ⟨r.val % 32, by omega⟩

/-- The codes of a tile. -/
def codesT (W : FVec F S896x1792 .f32) : IVec S896x1792 8 := fun y => tripCodes (rowsOf W (grp (y 0))) (ix2 (sub (y 0)) (y 1))
/-- The residuals of a tile. -/
def residT (W : FVec F S896x1792 .f32) : FVec F S896x1792 .f32 := fun y => tripResid (rowsOf W (grp (y 0))) (ix2 (sub (y 0)) (y 1))
/-- The scales of a tile, put into the tile `g` found there. -/
def scalesT (w : BitVec 32) (W : FVec F S896x1792 .f32) (g : FVec F S896x28 .f32) : FVec F S896x28 .f32 :=
  fun y => tripScales w (rowsOf W (grp (y 0))) (rowsOfS g (grp (y 0))) (ix2 (sub (y 0)) (y 1))

theorem trips_eq : k0_t1_loop.trips = 28 := by decide +kernel

theorem ld_rows (X : FVec F S896x1792 .f32) (k : Fin k0_t1_loop.trips) (k' : Fin 28) (hk : k'.val = k.val) (inb) :
    View.ld (Val := Elt F) (e' := .f32) X (Rect.unit (s := S896x1792) (k0_off1 k) S32x1792.size inb) = (rowsOf X k' : FVec F S32x1792 .f32) := by
  funext z
  show X _ = X _
  refine congrArg X (funext fun a => Fin.ext ?_)
  have e0 : k0_off1 k 0 = 32 * k.val := congrFun (k0_off1_eq k) 0
  have e1 : k0_off1 k 1 = 0 := congrFun (k0_off1_eq k) 1
  fin_cases a
  · show k0_off1 k 0 + 1 * (z 0).val = 32 * k'.val + (z 0).val
    omega
  · show k0_off1 k 1 + 1 * (z 1).val = (z 1).val
    omega

theorem ld_rowsS (X : FVec F S896x28 .f32) (k : Fin k0_t1_loop.trips) (k' : Fin 28) (hk : k'.val = k.val) (inb) :
    View.ld (Val := Elt F) (e' := .f32) X (Rect.unit (s := S896x28) (k0_off2 k) S32x28.size inb) = (rowsOfS X k' : FVec F S32x28 .f32) := by
  funext z
  show X _ = X _
  refine congrArg X (funext fun a => Fin.ext ?_)
  have e0 : k0_off2 k 0 = 32 * k.val := congrFun (k0_off2_eq k) 0
  have e1 : k0_off2 k 1 = 0 := congrFun (k0_off2_eq k) 1
  fin_cases a
  · show k0_off2 k 0 + 1 * (z 0).val = 32 * k'.val + (z 0).val
    omega
  · show k0_off2 k 1 + 1 * (z 1).val = (z 1).val
    omega

/-- What the written buffers hold before trip `k`: the rows of the trips before it done, the others as found. -/
theorem loop_vals (𝒱 : Variants) (c : Dev nD) (bd : Option 𝒱.V) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (k0_h2 : k0_cond2 i = 1#1) (v14 : BitVec 32) (hv : v14 = Scalar.muli (BitVec.ofNat 32 (i 1).val) 14#32) (X_arg5 : BufTy.Contents (Elt F) arg5.view.ty) (X_arg9 : BufTy.Contents (Elt F) arg9.view.ty) (G6 : BufTy.Contents (Elt F) arg6.view.ty) (G7 : BufTy.Contents (Elt F) arg7.view.ty) (G8 : BufTy.Contents (Elt F) arg8.view.ty) (W : FVec F S896x1792 .f32) (hW : W = addf (arg9.view.read (Elt F) X_arg9) (arg5.view.read (Elt F) X_arg5)) : ∀ k : ℕ, k ≤ 28 →
    (∀ y : S896x1792.Idx, arg6.view.read (Elt F) (arg6.view.writes (Elt F) G6 (pb_k0_t1 (F := F) 𝒱 c bd i arg3 harg3 arg4 harg4 arg5 harg5 arg6 harg6 arg7 harg7 arg8 harg8 arg9 harg9 k0_h2 v14 X_arg5 X_arg9 G6 G7 G8 k).1) y
      = if (y 0).val < 32 * k then codesT W y else arg6.view.read (Elt F) G6 y)
    ∧ (∀ y : S896x28.Idx, arg7.view.read (Elt F) (arg7.view.writes (Elt F) G7 (pb_k0_t1 (F := F) 𝒱 c bd i arg3 harg3 arg4 harg4 arg5 harg5 arg6 harg6 arg7 harg7 arg8 harg8 arg9 harg9 k0_h2 v14 X_arg5 X_arg9 G6 G7 G8 k).2.1) y
      = if (y 0).val < 32 * k then scalesT v14 W (arg7.view.read (Elt F) G7) y else arg7.view.read (Elt F) G7 y)
    ∧ (∀ y : S896x1792.Idx, arg8.view.read (Elt F) (arg8.view.writes (Elt F) G8 (pb_k0_t1 (F := F) 𝒱 c bd i arg3 harg3 arg4 harg4 arg5 harg5 arg6 harg6 arg7 harg7 arg8 harg8 arg9 harg9 k0_h2 v14 X_arg5 X_arg9 G6 G7 G8 k).2.2) y
      = if (y 0).val < 32 * k then residT W y else arg8.view.read (Elt F) G8 y) := by
  intro k
  induction k with
  | zero =>
    intro _
    refine ⟨fun y => ?_, fun y => ?_, fun y => ?_⟩ <;> rw [if_neg (by omega)] <;> rfl
  | succ k ih =>
    intro hk
    obtain ⟨h6, h7, h8⟩ := ih (by omega)
    have hkt : k < k0_t1_loop.trips := by rw [trips_eq]; omega
    have hs := pb_k0_t1_succ (F := F) 𝒱 c bd i arg3 harg3 arg4 harg4 arg5 harg5 arg6 harg6 arg7 harg7 arg8 harg8 arg9 harg9 k0_h2 v14 X_arg5 X_arg9 G6 G7 G8 ⟨k, hkt⟩
    dsimp only at hs
    rw [hs]
    dsimp only [tripL_k0_t1]
    rw [trip_codes, trip_scales (hv := hv), trip_resid]
    generalize pb_k0_t1 (F := F) 𝒱 c bd i arg3 harg3 arg4 harg4 arg5 harg5 arg6 harg6 arg7 harg7 arg8 harg8 arg9 harg9 k0_h2 v14 X_arg5 X_arg9 G6 G7 G8 k = P at h6 h7 h8 ⊢
    have hv' : addf (arg9.view.readAt (Elt F) (Rect.unit (s := S896x1792) (k0_off1 ⟨k, hkt⟩) S32x1792.size (k0_off1_inb i ⟨k, hkt⟩ k0_h2)).toLoadRect X_arg9) (arg5.view.readAt (Elt F) (Rect.unit (s := S896x1792) (k0_off1 ⟨k, hkt⟩) S32x1792.size (k0_off1_inb i ⟨k, hkt⟩ k0_h2)).toLoadRect X_arg5)
        = rowsOf W ⟨k, by omega⟩ := by
      rw [← ld_rows W ⟨k, hkt⟩ ⟨k, by omega⟩ rfl (k0_off1_inb i ⟨k, hkt⟩ k0_h2), hW]; rfl
    have hg : arg7.view.readAt (Elt F) (Rect.unit (s := S896x28) (k0_off2 ⟨k, hkt⟩) S32x28.size (k0_off2_inb i ⟨k, hkt⟩ k0_h2)).toLoadRect (arg7.view.writes (Elt F) G7 P.2.1)
        = rowsOfS (arg7.view.read (Elt F) G7) ⟨k, by omega⟩ := by
      have e := ld_rowsS (arg7.view.read (Elt F) (arg7.view.writes (Elt F) G7 P.2.1)) ⟨k, hkt⟩ ⟨k, by omega⟩ rfl (k0_off2_inb i ⟨k, hkt⟩ k0_h2)
      refine Eq.trans (Eq.trans rfl e) (funext fun z => ?_)
      show arg7.view.read (Elt F) (arg7.view.writes (Elt F) G7 P.2.1) _ = arg7.view.read (Elt F) G7 _
      rw [h7, if_neg (by show ¬ (32 * k + (z 0).val < 32 * k); omega)]
    rw [hv', hg]; clear hs ih hv' hg hW hv
    refine ⟨fun y => ?_, fun y => ?_, fun y => ?_⟩
    · have hy0 : (y 0).val < 896 := (y 0).isLt
      show arg6.view.read (Elt F) (arg6.view.writes (Elt F) G6 (⟨Rect.unit (s := S896x1792) _ _ _, _⟩ :: P.1)) y = _
      by_cases hy : 32 * k ≤ (y 0).val ∧ (y 0).val < 32 * k + 32
      · refine (View.read_writes_cons_rows_of_mem arg6.view G6 _ _ P.1 y (ix2 (sub (y 0)) (y 1)) (o := 32 * k) (k0_off1_eq ⟨k, hkt⟩)
          (by show (y 0).val = 32 * k + (y 0).val % 32; omega) rfl).trans ?_
        rw [if_pos (by omega)]
        show tripCodes _ _ = tripCodes _ _
        rw [show grp (y 0) = ⟨k, by omega⟩ from Fin.ext (by show (y 0).val / 32 = k; omega)]
        rfl
      · refine (View.read_writes_cons_rows_of_not_mem arg6.view G6 _ _ P.1 y (o := 32 * k) (W := 32) (k0_off1_eq ⟨k, hkt⟩) rfl (by omega)).trans ?_
        rw [h6]
        by_cases h : (y 0).val < 32 * k
        · rw [if_pos h, if_pos (by omega)]
        · rw [if_neg h, if_neg (by omega)]
    · have hy0 : (y 0).val < 896 := (y 0).isLt
      show arg7.view.read (Elt F) (arg7.view.writes (Elt F) G7 (⟨Rect.unit (s := S896x28) _ _ _, _⟩ :: P.2.1)) y = _
      by_cases hy : 32 * k ≤ (y 0).val ∧ (y 0).val < 32 * k + 32
      · refine (View.read_writes_cons_rows_of_mem arg7.view G7 _ _ P.2.1 y (ix2 (sub (y 0)) (y 1)) (o := 32 * k) (k0_off2_eq ⟨k, hkt⟩)
          (by show (y 0).val = 32 * k + (y 0).val % 32; omega) rfl).trans ?_
        rw [if_pos (by omega)]
        show tripScales _ _ _ _ = tripScales _ _ _ _
        rw [show grp (y 0) = ⟨k, by omega⟩ from Fin.ext (by show (y 0).val / 32 = k; omega)]
        rfl
      · refine (View.read_writes_cons_rows_of_not_mem arg7.view G7 _ _ P.2.1 y (o := 32 * k) (W := 32) (k0_off2_eq ⟨k, hkt⟩) rfl (by omega)).trans ?_
        rw [h7]
        by_cases h : (y 0).val < 32 * k
        · rw [if_pos h, if_pos (by omega)]
        · rw [if_neg h, if_neg (by omega)]
    · have hy0 : (y 0).val < 896 := (y 0).isLt
      show arg8.view.read (Elt F) (arg8.view.writes (Elt F) G8 (⟨Rect.unit (s := S896x1792) _ _ _, _⟩ :: P.2.2)) y = _
      by_cases hy : 32 * k ≤ (y 0).val ∧ (y 0).val < 32 * k + 32
      · refine (View.read_writes_cons_rows_of_mem arg8.view G8 _ _ P.2.2 y (ix2 (sub (y 0)) (y 1)) (o := 32 * k) (k0_off1_eq ⟨k, hkt⟩)
          (by show (y 0).val = 32 * k + (y 0).val % 32; omega) rfl).trans ?_
        rw [if_pos (by omega)]
        show tripResid _ _ = tripResid _ _
        rw [show grp (y 0) = ⟨k, by omega⟩ from Fin.ext (by show (y 0).val / 32 = k; omega)]
        rfl
      · refine (View.read_writes_cons_rows_of_not_mem arg8.view G8 _ _ P.2.2 y (o := 32 * k) (W := 32) (k0_off1_eq ⟨k, hkt⟩) rfl (by omega)).trans ?_
        rw [h8]
        by_cases h : (y 0).val < 32 * k
        · rw [if_pos h, if_pos (by omega)]
        · rw [if_neg h, if_neg (by omega)]

/-- What the written buffers hold after the loop. -/
theorem loop_done (𝒱 : Variants) (c : Dev nD) (bd : Option 𝒱.V) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (k0_h2 : k0_cond2 i = 1#1) (v14 : BitVec 32) (hv : v14 = Scalar.muli (BitVec.ofNat 32 (i 1).val) 14#32) (X_arg5 : BufTy.Contents (Elt F) arg5.view.ty) (X_arg9 : BufTy.Contents (Elt F) arg9.view.ty) (G6 : BufTy.Contents (Elt F) arg6.view.ty) (G7 : BufTy.Contents (Elt F) arg7.view.ty) (G8 : BufTy.Contents (Elt F) arg8.view.ty) (W : FVec F S896x1792 .f32) (hW : W = addf (arg9.view.read (Elt F) X_arg9) (arg5.view.read (Elt F) X_arg5)) :
    arg6.view.read (Elt F) (arg6.view.writes (Elt F) G6 (pb_k0_t1 (F := F) 𝒱 c bd i arg3 harg3 arg4 harg4 arg5 harg5 arg6 harg6 arg7 harg7 arg8 harg8 arg9 harg9 k0_h2 v14 X_arg5 X_arg9 G6 G7 G8 k0_t1_loop.trips).1) = codesT W
    ∧ arg7.view.read (Elt F) (arg7.view.writes (Elt F) G7 (pb_k0_t1 (F := F) 𝒱 c bd i arg3 harg3 arg4 harg4 arg5 harg5 arg6 harg6 arg7 harg7 arg8 harg8 arg9 harg9 k0_h2 v14 X_arg5 X_arg9 G6 G7 G8 k0_t1_loop.trips).2.1) = scalesT v14 W (arg7.view.read (Elt F) G7)
    ∧ arg8.view.read (Elt F) (arg8.view.writes (Elt F) G8 (pb_k0_t1 (F := F) 𝒱 c bd i arg3 harg3 arg4 harg4 arg5 harg5 arg6 harg6 arg7 harg7 arg8 harg8 arg9 harg9 k0_h2 v14 X_arg5 X_arg9 G6 G7 G8 k0_t1_loop.trips).2.2) = residT W := by
  obtain ⟨h6, h7, h8⟩ := loop_vals 𝒱 c bd i arg3 harg3 arg4 harg4 arg5 harg5 arg6 harg6 arg7 harg7 arg8 harg8 arg9 harg9 k0_h2 v14 hv X_arg5 X_arg9 G6 G7 G8 W hW 28 le_rfl
  rw [trips_eq]
  refine ⟨funext fun y => ?_, funext fun y => ?_, funext fun y => ?_⟩
  · have hy0 : (y 0).val < 896 := (y 0).isLt
    rw [h6, if_pos (by omega)]
  · have hy0 : (y 0).val < 896 := (y 0).isLt
    rw [h7, if_pos (by omega)]
  · have hy0 : (y 0).val < 896 := (y 0).isLt
    rw [h8, if_pos (by omega)]

end Cert.KernelIdeal.Gen
-- ==== Proof.KIRuns.lean ====
/- What the runs of the idealized kernel share: the branch conditions, the operands, the scratch. -/
module

public import proofs.«01_k».proof.Proof.Gen.KernelIdeal.Frame
public import proofs.«01_k».proof.Proof.Gen.KernelIdeal.Skeleton
public import proofs.«01_k».proof.Proof.LoopVal
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem rframe_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 28) — by arithmetic of the point. -/
theorem hcond0_0 : ∀ t : Fin cfg0.N, cond0_0 (grid0.coords t) ↔ t.val % 28 = 0 :=
  (fun t => by
    have ht : t.val < 224 := Nat.lt_of_lt_of_eq t.isLt N_0
    have e0 : (grid0.coords t 0).val = t.val / 56 % 4 := Pipeline.Grid.coords_val t 0 (by decide) rfl
    have e1 : (grid0.coords t 1).val = t.val / 28 % 2 := Pipeline.Grid.coords_val t 1 (by decide) rfl
    have e2 : (grid0.coords t 2).val = t.val / 1 % 28 := Pipeline.Grid.coords_val t 2 (by decide) rfl
    simp only [cond0_0, e0, e1, e2]
    word_cmp
   : ∀ t : Fin grid0.N, cond0_0 (grid0.coords t) ↔ t.val % 28 = 0)

/-- The condition of the body's `scf.if` 1 (`k0_h2`), from the grid coordinates (the skeleton's scalar
    chain substituted). -/
abbrev cond0_1 (i : grid0.Coords) : Prop := k0_cond2 i = 1#1
/-- It holds at the points ≡ 27 (mod 28) — by arithmetic of the point. -/
theorem hcond0_1 : ∀ t : Fin cfg0.N, cond0_1 (grid0.coords t) ↔ t.val % 28 = 27 :=
  (fun t => by
    have ht : t.val < 224 := Nat.lt_of_lt_of_eq t.isLt N_0
    have e0 : (grid0.coords t 0).val = t.val / 56 % 4 := Pipeline.Grid.coords_val t 0 (by decide) rfl
    have e1 : (grid0.coords t 1).val = t.val / 28 % 2 := Pipeline.Grid.coords_val t 1 (by decide) rfl
    have e2 : (grid0.coords t 2).val = t.val / 1 % 28 := Pipeline.Grid.coords_val t 2 (by decide) rfl
    simp only [cond0_1, k0_cond2, e0, e1, e2]
    word_cmp
   : ∀ t : Fin grid0.N, cond0_1 (grid0.coords t) ↔ t.val % 28 = 27)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x896 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1792 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S896x1792 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S896x1792 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S896x28 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S896x1792 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S896x1792 .f32 := Memref.whole cc0_scratch0
/-- The scratch `arg9` the kernel carries between points, as a view: what it holds is stated through it. -/
abbrev VS0_0 : View sig .tc .vmem S896x1792 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KIRunA.lean ====
/- The idealized kernel's body at a grid point that does not quantise. -/
module

public import proofs.«01_k».proof.Proof.KIRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A point that clears the accumulator first: it ends at this point's product alone. -/
theorem run_A (c : Dev nD) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (hc0 : cond0_0 i) (hc1 : ¬cond0_1 i)
    (x0 : Vec F S1024x896 .bf16) (x1 : Vec F S1024x1792 .bf16) (E : Set ℕ) (K : PUnit → sProp 𝕄) :
    iprop(owns (c : Thread nD τ) arg3 fullShare x0 ∗ owns (c : Thread nD τ) arg4 fullShare x1 ∗ (∃ d, owns (c : Thread nD τ) arg9 fullShare d)
        ∗ (iprop(owns (c : Thread nD τ) arg3 fullShare x0 ∗ owns (c : Thread nD τ) arg4 fullShare x1 ∗ owns (c : Thread nD τ) arg9 fullShare (k0_pay2 k0_pay1 x0 x1)) -∗ K ⟨⟩))
      ⊢ wp frame (wpE (defs₀ (F := F)) Variants.none c none) E (cc0_grad_quant i arg3 harg3 arg4 harg4 arg5 harg5 arg6 harg6 arg7 harg7 arg8 harg8 arg9 harg9) K := by
  simp only [cc0_grad_quant_eq_skeleton]; unfold cc0_grad_quant_skel
  unfold owns
  iintro ⟨⟨%f0, %hf0, H0⟩, ⟨%f1, %hf1, H1⟩, ⟨%ds0, %fs0, -, HS0⟩, Hk⟩
  obtain rfl := harg3.eq_unread hf0; obtain rfl := harg4.eq_unread hf1
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr; swap; · iexact HS0
  ipureintro
  show View.read (Elt F) arg9.view (arg9.view.writes (Elt F) _ (⟨Rect.unit (s := S896x1792) _ _ _, _⟩ :: _)) = _
  refine (View.read_writes_full _ _ _ _ _).trans ?_
  unfold run_A.sl.v3 run_A.sl.HS0_1
  exact congr (congr (congrArg k0_pay2 (View.readCov_full _ _ _ _ _)) ((View.readAt_full _ _ _).trans hf0)) ((View.readAt_full _ _ _).trans hf1)

set_option maxHeartbeats 1000000 in
/-- A point that only adds its product to the accumulator. -/
theorem run_B (c : Dev nD) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (hc0 : ¬cond0_0 i) (hc1 : ¬cond0_1 i)
    (x0 : Vec F S1024x896 .bf16) (x1 : Vec F S1024x1792 .bf16) (xs0 : Vec F S896x1792 .f32) (E : Set ℕ) (K : PUnit → sProp 𝕄) :
    iprop(owns (c : Thread nD τ) arg3 fullShare x0 ∗ owns (c : Thread nD τ) arg4 fullShare x1 ∗ owns (c : Thread nD τ) arg9 fullShare xs0
        ∗ (iprop(owns (c : Thread nD τ) arg3 fullShare x0 ∗ owns (c : Thread nD τ) arg4 fullShare x1 ∗ owns (c : Thread nD τ) arg9 fullShare (k0_pay2 xs0 x0 x1)) -∗ K ⟨⟩))
      ⊢ wp frame (wpE (defs₀ (F := F)) Variants.none c none) E (cc0_grad_quant i arg3 harg3 arg4 harg4 arg5 harg5 arg6 harg6 arg7 harg7 arg8 harg8 arg9 harg9) K := by
  simp only [cc0_grad_quant_eq_skeleton]; unfold cc0_grad_quant_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg9.eq_unread hfs0
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr; swap; · iexact HS0
  ipureintro
  show View.read (Elt F) arg9.view (arg9.view.writes (Elt F) _ (⟨Rect.unit (s := S896x1792) _ _ _, _⟩ :: _)) = _
  refine (View.read_writes_full _ _ _ _ _).trans ?_
  exact congr (congr (congrArg k0_pay2 ((View.readAt_full _ _ _).trans hfs0)) ((View.readAt_full _ _ _).trans hf0)) ((View.readAt_full _ _ _).trans hf1)

end Cert.KernelIdeal.Gen

end
-- ==== Proof.KIRunC.lean ====
/- The idealized kernel's body at a grid point that quantises. -/
module

public import proofs.«01_k».proof.Proof.KIRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- A point that adds the last product and quantises the tile: the codes, the residuals, and the scales put into the scales' tile as found. -/
theorem run_C (c : Dev nD) (i : grid0.Coords) (arg3 : Memref sig .tc .vmem S1024x896 .bf16) (harg3 : arg3.IsWhole) (arg4 : Memref sig .tc .vmem S1024x1792 .bf16) (harg4 : arg4.IsWhole) (arg5 : Memref sig .tc .vmem S896x1792 .f32) (harg5 : arg5.IsWhole) (arg6 : Memref sig .tc .vmem S896x1792 .i8) (harg6 : arg6.IsWhole) (arg7 : Memref sig .tc .vmem S896x28 .f32) (harg7 : arg7.IsWhole) (arg8 : Memref sig .tc .vmem S896x1792 .f32) (harg8 : arg8.IsWhole) (arg9 : Memref sig .tc .vmem S896x1792 .f32) (harg9 : arg9.IsWhole) (hc0 : ¬cond0_0 i) (hc1 : cond0_1 i)
    (x0 : Vec F S1024x896 .bf16) (x1 : Vec F S1024x1792 .bf16) (x2 : Vec F S896x1792 .f32) (y7 : Vec F S896x28 .f32) (xs0 : Vec F S896x1792 .f32) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare y7 ∗ (∃ d, owns (c : Thread nD τ) arg8 fullShare d) ∗ owns (c : Thread nD τ) arg9 fullShare xs0
        ∗ (iprop(owns (c : Thread nD τ) arg3 fullShare x0 ∗ owns (c : Thread nD τ) arg4 fullShare x1 ∗ owns (c : Thread nD τ) arg5 fullShare x2 ∗ owns (c : Thread nD τ) arg6 fullShare (codesT (addf (k0_pay2 xs0 x0 x1) x2)) ∗ owns (c : Thread nD τ) arg7 fullShare (scalesT (Scalar.muli (BitVec.ofNat 32 (i 1).val) 14#32) (addf (k0_pay2 xs0 x0 x1) x2) y7) ∗ owns (c : Thread nD τ) arg8 fullShare (residT (addf (k0_pay2 xs0 x0 x1) x2)) ∗ owns (c : Thread nD τ) arg9 fullShare (k0_pay2 xs0 x0 x1)) -∗ K ⟨⟩))
      ⊢ wp frame (wpE (defs₀ (F := F)) Variants.none c none) E (cc0_grad_quant i arg3 harg3 arg4 harg4 arg5 harg5 arg6 harg6 arg7 harg7 arg8 harg8 arg9 harg9) K := by
  simp only [cc0_grad_quant_eq_skeleton]; unfold cc0_grad_quant_skel
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%fs0, %hfs0, HS0⟩, Hk⟩
  obtain rfl := harg3.eq_unread hf0; obtain rfl := harg4.eq_unread hf1; obtain rfl := harg5.eq_unread hf2; obtain rfl := harg9.eq_unread hfs0
  sl_exec (disch := first | sl_exact hc0 | sl_exact hc1)
  sl_step
  have h9 : View.read (Elt F) arg9.view (arg9.view.writes (Elt F) arg9.view.junk (run_C.sl.HS0_1 c arg3 harg3 arg4 harg4 arg9 harg9 x0 x1 xs0)) = k0_pay2 xs0 x0 x1 := by
    unfold run_C.sl.HS0_1
    show View.read (Elt F) arg9.view (arg9.view.writes (Elt F) _ (⟨Rect.unit (s := S896x1792) _ _ _, _⟩ :: _)) = _
    refine (View.read_writes_full _ _ _ _ _).trans ?_
    exact congr (congr (congrArg k0_pay2 ((View.readAt_full _ _ _).trans hfs0)) ((View.readAt_full _ _ _).trans hf0)) ((View.readAt_full _ _ _).trans hf1)
  have hd := loop_done Variants.none c none i arg3 harg3 arg4 harg4 arg5 harg5 arg6 harg6 arg7 harg7 arg8 harg8 arg9 harg9 hc1 (Scalar.muli (BitVec.ofNat 32 (i 1).val) 14#32) rfl (harg5.unread x2) (arg9.view.writes (Elt F) arg9.view.junk (run_C.sl.HS0_1 c arg3 harg3 arg4 harg4 arg9 harg9 x0 x1 xs0)) f3 f4 f5 (addf (k0_pay2 xs0 x0 x1) x2) (by rw [h9, hf2])
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro; exact hd.1
  isplitl [H4]
  · iexists _; isplitr; swap; · iexact H4
    ipureintro; exact hf4 ▸ hd.2.1
  isplitl [H5]
  · iexists _; isplitr; swap; · iexact H5
    ipureintro; exact hd.2.2
  iexists _; isplitr; swap; · iexact HS0
  ipureintro
  exact h9

end Cert.KernelIdeal.Gen

end
-- ==== Proof.ScaleLane.lean ====
/- Which lane of the scales' tile a block's scale goes to. -/
module

public import proofs.«01_k».proof.Proof.LoopVal
public import Idealize.ShloMosaic.Lib.WordCmp

@[expose] public section
set_option maxRecDepth 16384
noncomputable section
namespace Cert.KernelIdeal.Gen

open Idealize.ShloMosaic Idealize.ShloMosaic.TcCoe Idealize.ShloMosaic.Tactic
open Idealize.ShloMosaic.ValueIdx
variable {F : FTy → Type} [FloatOps F]

theorem qPut_apply (w : BitVec 32) (sc : FVec F S32x1 .f32) (acc : FVec F S32x28 .f32) (r : Fin 32) (l : Fin 28) :
    qPut w sc acc (ix2 r l) = if BitVec.ofNat 32 l.val = w then sc (ix2 r (0 : Fin 1)) else acc (ix2 r l) := by
  have e : broadcastTo S32x28 (shapeCast S32x1 sc shapeCasts_S32x1_S32x1) broadcasts_S32x1_S32x28 (ix2 r l) = sc (ix2 r (0 : Fin 1)) := by
    rw [shapeCast_self]
    exact broadcastTo_apply sc _ (ix2 r l) (ix2 r (0 : Fin 1)) fun a => by
      match a with
      | ⟨0, _⟩ => rfl
      | ⟨1, _⟩ => rfl
  unfold qPut
  rw [select_apply, e]
  have ei : (iota .tc S32x28 32 [1] iota_S32x28_d1_w32) (ix2 r l) = BitVec.ofNat 32 l.val := by
    show BitVec.ofNat 32 (0 * 28 + l.val) = _
    rw [Nat.zero_mul, Nat.zero_add]
  have ec : cmpi .eq (iota .tc S32x28 32 [1] iota_S32x28_d1_w32) (broadcast S32x28 w) (ix2 r l) = BitVec.ofBool (BitVec.ofNat 32 l.val == w) := by
    rw [← ei]; rfl
  rw [ec]
  by_cases h : BitVec.ofNat 32 l.val = w
  · rw [if_pos h, beq_iff_eq.mpr h]; rfl
  · rw [if_neg h, beq_eq_false_iff_ne.mpr h]; rfl

/-- Lane `l` is block `b`'s at column tile `j` exactly when `l = 14 j + b`. -/
theorem lane_iff (j b l : ℕ) (hj : j < 2) (hb : b < 14) (hl : l < 28) :
    BitVec.ofNat 32 l = Scalar.addi (Scalar.muli (BitVec.ofNat 32 j) 14#32) (BitVec.ofNat 32 b) ↔ l = 14 * j + b := by
  have e : Scalar.addi (Scalar.muli (BitVec.ofNat 32 j) 14#32) (BitVec.ofNat 32 b) = BitVec.ofNat 32 (j * 14 + b) := by
    show BitVec.ofNat 32 j * BitVec.ofNat 32 14 + BitVec.ofNat 32 b = _
    rw [BitVec.ofNat_add, BitVec.ofNat_mul]
  rw [e, ← BitVec.toNat_inj, BitVec.toNat_ofNat, BitVec.toNat_ofNat, Nat.mod_eq_of_lt (by omega), Nat.mod_eq_of_lt (by omega)]
  omega

/-- The scales of 32 rows: the fourteen lanes of column tile `j` are the blocks', the others are as found. -/
theorem tripScales_apply (j : ℕ) (hj : j < 2) (v : FVec F S32x1792 .f32) (g : FVec F S32x28 .f32) (r : Fin 32) (l : Fin 28) :
    tripScales (Scalar.muli (BitVec.ofNat 32 j) 14#32) v g (ix2 r l)
      = if h : 14 * j ≤ l.val ∧ l.val < 14 * j + 14 then qScale (qBlk v ⟨l.val - 14 * j, by omega⟩) (ix2 r (0 : Fin 1)) else g (ix2 r l) := by
  have hl := l.isLt
  unfold tripScales
  simp only [qPut_apply, shapeCast_self]
  rw [show (13#32) = BitVec.ofNat 32 13 from rfl]
  simp only [lane_iff j _ l.val hj (by omega : 13 < 14) hl, lane_iff j _ l.val hj (by omega : 12 < 14) hl, lane_iff j _ l.val hj (by omega : 11 < 14) hl,
    lane_iff j _ l.val hj (by omega : 10 < 14) hl, lane_iff j _ l.val hj (by omega : 9 < 14) hl, lane_iff j _ l.val hj (by omega : 8 < 14) hl,
    lane_iff j _ l.val hj (by omega : 7 < 14) hl, lane_iff j _ l.val hj (by omega : 6 < 14) hl, lane_iff j _ l.val hj (by omega : 5 < 14) hl,
    lane_iff j _ l.val hj (by omega : 4 < 14) hl, lane_iff j _ l.val hj (by omega : 3 < 14) hl, lane_iff j _ l.val hj (by omega : 2 < 14) hl,
    lane_iff j _ l.val hj (by omega : 1 < 14) hl, lane_iff j _ l.val hj (by omega : 0 < 14) hl]
  by_cases h : 14 * j ≤ l.val ∧ l.val < 14 * j + 14
  · rw [dif_pos h]
    obtain ⟨b, hb, hlb⟩ : ∃ b, b < 14 ∧ l.val = 14 * j + b := ⟨l.val - 14 * j, by omega, by omega⟩
    have e : (⟨l.val - 14 * j, by omega⟩ : Fin 14) = ⟨b, hb⟩ := Fin.ext (by show l.val - 14 * j = b; omega)
    rw [e, hlb]
    simp only [Nat.add_left_cancel_iff]
    interval_cases b <;> rfl
  · rw [dif_neg h]
    iterate 14 rw [if_neg (by omega)]

/-- The scales of a tile: the fourteen lanes of column tile `j` are the blocks', the others are as found. -/
theorem scalesT_apply (j : ℕ) (hj : j < 2) (W : FVec F S896x1792 .f32) (g : FVec F S896x28 .f32) (r : Fin 896) (l : Fin 28) :
    scalesT (Scalar.muli (BitVec.ofNat 32 j) 14#32) W g (ix2 r l)
      = if h : 14 * j ≤ l.val ∧ l.val < 14 * j + 14 then qScale (qBlk (rowsOf W (grp r)) ⟨l.val - 14 * j, by omega⟩) (ix2 (sub r) (0 : Fin 1)) else g (ix2 r l) := by
  refine (tripScales_apply j hj (rowsOf W (grp r)) (rowsOfS g (grp r)) (sub r) l).trans ?_
  have e : rowsOfS g (grp r) (ix2 (sub r) l) = g (ix2 r l) := by
    show g _ = g _
    refine congrArg g (congrArg (fun a => ix2 a l) (Fin.ext ?_))
    show 32 * (r.val / 32) + r.val % 32 = r.val
    omega
  rw [e]

end Cert.KernelIdeal.Gen
-- ==== Proof.KIData.lean ====
/- The idealized kernel's proof data: what the accumulator and the outputs' buffers hold point by point, and the body's obligation. -/
module

public import proofs.«01_k».proof.Proof.KIRunA
public import proofs.«01_k».proof.Proof.KIRunC
public import proofs.«01_k».proof.Proof.ScaleLane
public import Idealize.ShloMosaic.Lib.Pipeline.DatRel

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after point `n`. -/
def accS (c : Dev nD) : (n : ℕ) → n < cfg0.N → Vec F S896x1792 .f32
  | 0, hn => k0_pay2 k0_pay1 (iblk m c 0 ⟨0, hn⟩) (iblk m c 1 ⟨0, hn⟩)
  | n + 1, hn =>
    if (n + 1) % 28 = 0 then k0_pay2 k0_pay1 (iblk m c 0 ⟨n + 1, hn⟩) (iblk m c 1 ⟨n + 1, hn⟩)
    else k0_pay2 (accS c n (Nat.lt_of_succ_lt hn)) (iblk m c 0 ⟨n + 1, hn⟩) (iblk m c 1 ⟨n + 1, hn⟩)

theorem accS_first (c : Dev nD) (t : Fin cfg0.N) (h0 : t.val % 28 = 0) :
    accS m c t.val t.isLt = k0_pay2 k0_pay1 (iblk m c 0 t) (iblk m c 1 t) := by
  obtain ⟨n, hn⟩ := t
  cases n with
  | zero => rfl
  | succ n => exact if_pos h0

theorem accS_next (c : Dev nD) (t : Fin cfg0.N) (h0 : ¬t.val % 28 = 0) :
    accS m c t.val t.isLt = k0_pay2 (accS m c (t.val - 1) (Nat.lt_of_le_of_lt (Nat.sub_le _ _) t.isLt)) (iblk m c 0 t) (iblk m c 1 t) := by
  obtain ⟨n, hn⟩ := t
  cases n with
  | zero => exact absurd (Nat.zero_mod _) h0
  | succ n => exact if_neg h0

/-- The tile that point `t` quantises, when it does: the accumulator and the old error added. -/
def tileW (c : Dev nD) (t : Fin cfg0.N) : FVec F S896x1792 .f32 := addf (accS m c t.val t.isLt) (iblk m c 2 t)

/-- The point at which lane `l` of the scales of `t`'s row tile is written. -/
def endPt (t : Fin cfg0.N) (l : Fin 28) : Fin cfg0.N :=
  ⟨t.val / 56 * 56 + 28 * (l.val / 14) + 27, by
    have h : t.val < 224 := lt_of_lt_of_eq t.isLt (show cfg0.N = 224 from N_0)
    have := l.isLt
    exact lt_of_lt_of_eq (by omega : _ < 224) (show cfg0.N = 224 from N_0).symm⟩

/-- The scale of row `r`, lane `l`, in `t`'s row tile. -/
def sclOf (c : Dev nD) (t : Fin cfg0.N) (r : Fin 896) (l : Fin 28) : F .f32 :=
  qScale (qBlk (rowsOf (tileW m c (endPt t l)) (grp r)) ⟨l.val % 14, by omega⟩) (ix2 (sub r) (0 : Fin 1))

theorem endPt_congr {t u : Fin cfg0.N} (h : t.val / 56 = u.val / 56) (l : Fin 28) : endPt t l = endPt u l :=
  Fin.ext (by show t.val / 56 * 56 + _ + 27 = u.val / 56 * 56 + _ + 27; rw [h])

theorem sclOf_congr (c : Dev nD) {t u : Fin cfg0.N} (h : t.val / 56 = u.val / 56) (r : Fin 896) (l : Fin 28) : sclOf m c t r l = sclOf m c u r l := by
  unfold sclOf; rw [endPt_congr h]

/-- The region invariant before position `n`: the accumulator holds what the point before left. -/
def PhiS (c : Dev nD) : (n : ℕ) → n ≤ cfg0.N → sProp 𝕄
  | 0, _ => Pipeline.ΦA spec0 c
  | n + 1, hn => iprop(iprop(owns (c : Thread nD τ) scM0_0 fullShare (accS m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accS m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accS m c (n - 1) (by omega))) ∗ (∃ r, prngReg c r)) := by
  cases n with
  | zero => exact absurd rfl hz
  | succ n => rfl

/-- The outputs are held to a predicate. -/
def held : Fin 6 → Bool := fun w => w.val == 3 || w.val == 4 || w.val == 5

/-- What the body leaves in each output's buffer: at the points that quantise, the tile's codes and residuals; the scales lane by lane, those
    of the column tiles already done. -/
def Left (c : Dev nD) (w : Fin cfg0.W) (t : Fin cfg0.N) (X : (cfg0.win w).block.Idx → Elt F (cfg0.win w).elt) : Prop :=
  match w, X with
  | ⟨3, _⟩, X => t.val % 28 = 27 → X = codesT (tileW m c t)
  | ⟨4, _⟩, X => ∀ (r : Fin 896) (l : Fin 28), l.val / 14 < (t.val % 56 + 1) / 28 → X (ix2 r l) = sclOf m c t r l
  | ⟨5, _⟩, X => t.val % 28 = 27 → X = residT (tileW m c t)
  | _, _ => True

/-- The proof data of the pipeline: inputs stay at their blocks, the accumulator is tracked, the outputs are held to `Left`. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ t := PhiS m c t.val (Nat.le_of_lt_succ t.isLt)
  q _ := fullShare
  owed _ := 0

/-- The same read relationally. -/
abbrev rdats (c : Dev nD) : Pipeline.RDat τ (Elt F) Unit ℕ (UR sig nD τ) ℕ cfg0 c := (dats m c).toRRel held (Left m c)

theorem A_eq (c : Dev nD) (w : Fin cfg0.W) : (dats m c).A w = V m c (Pipeline.arrRef spec0 w) := by
  dsimp only [dats]

theorem PhiS_castSucc (c : Dev nD) (t : Fin cfg0.N) :
    (dats m c).Φ t.castSucc = PhiS m c t.val (Nat.le_of_lt t.isLt) := by
  dsimp only [dats]; exact Pipeline.Dat.Φ_castSucc (PhiS m c) t

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]

theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d

/-! ## What the scales' buffer is found to hold -/

/-- The scales of the column tiles done before point `t` are found in place. -/
theorem scales_found (c : Dev nD) (t : Fin cfg0.N) (Y : Vec F S896x28 .f32) (h : (rdats m c).Finds 4 t Y) (r : Fin 896) (l : Fin 28)
    (hl : l.val / 14 < (t.val % 56) / 28) : Y (ix2 r l) = sclOf m c t r l := by
  by_cases hz : t.val = 0
  · rw [hz] at hl; exact absurd hl (Nat.not_lt_zero _)
  · rcases (Pipeline.RDat.finds_of_pos (rd := rdats m c) (w := 4) (t := t) rfl hz Y).mp h with hf | hL
    · have := (flush0_4 _).mp hf
      dsimp only at this
      exfalso; omega
    · have hL' := (dats m c).toRRel_leaves (fgt := held) (Rl := Left m c) (w := 4) rfl hL r l (by dsimp only; omega)
      exact hL'.trans (sclOf_congr m c (by dsimp only; omega) r l)

/-- A point that does not quantise leaves them so. -/
theorem scales_kept (c : Dev nD) (t : Fin cfg0.N) (h1 : ¬t.val % 28 = 27) (Y : Vec F S896x28 .f32) (h : (rdats m c).Finds 4 t Y) : Left m c 4 t Y :=
  fun r l hl => scales_found m c t Y h r l (by omega)

/-- A point that quantises puts in its column tile's. -/
theorem scales_put (c : Dev nD) (t : Fin cfg0.N) (h1 : t.val % 28 = 27) (Y : Vec F S896x28 .f32) (h : (rdats m c).Finds 4 t Y) :
    Left m c 4 t (scalesT (Scalar.muli (BitVec.ofNat 32 (grid0.coords t 1).val) 14#32) (tileW m c t) Y) := by
  intro r l hl
  have ht : t.val < 224 := lt_of_lt_of_eq t.isLt (show cfg0.N = 224 from N_0)
  have e1 : (grid0.coords t 1).val = t.val / 28 % 2 := Pipeline.Grid.coords_val t 1 (by decide) rfl
  rw [e1, scalesT_apply _ (by omega)]
  by_cases hj : 14 * (t.val / 28 % 2) ≤ l.val ∧ l.val < 14 * (t.val / 28 % 2) + 14
  · rw [dif_pos hj]
    unfold sclOf
    have e : endPt t l = t := Fin.ext (by show t.val / 56 * 56 + 28 * (l.val / 14) + 27 = t.val; omega)
    rw [e]
    have eb : (⟨l.val - 14 * (t.val / 28 % 2), by omega⟩ : Fin 14) = ⟨l.val % 14, by omega⟩ := Fin.ext (by show l.val - _ = l.val % 14; omega)
    rw [eb]
  · rw [dif_neg hj]
    exact scales_found m c t Y h r l (by omega)

end Cert.KernelIdeal.Gen

end
-- ==== Proof.KIFrame.lean ====
/- The idealized kernel's body obligation, its run, and its frame. -/
module

public import proofs.«01_k».proof.Proof.KIData
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ Y, ⌜(rdats m c).Finds 3 t Y⌝ ∗ owns (c : Thread nD τ) (ms0_3 t) fullShare Y)
    ∗ (∃ Y, ⌜(rdats m c).Finds 4 t Y⌝ ∗ owns (c : Thread nD τ) (ms0_4 t) fullShare Y)
    ∗ (∃ Y, ⌜(rdats m c).Finds 5 t Y⌝ ∗ owns (c : Thread nD τ) (ms0_5 t) fullShare Y))

/-- and what it returns. -/
def bodyPost (c : Dev nD) (t : Fin cfg0.N) : sProp 𝕄 :=
  iprop((dats m c).Φ t.succ ∗ (dats m c).owesAt () t.succ
    ∗ (dats m c).leavesExact 0 t
    ∗ (dats m c).leavesExact 1 t
    ∗ (dats m c).leavesExact 2 t
    ∗ (∃ X, ⌜Left m c 3 t X⌝ ∗ owns (c : Thread nD τ) (ms0_3 t) fullShare X)
    ∗ (∃ X, ⌜Left m c 4 t X⌝ ∗ owns (c : Thread nD τ) (ms0_4 t) fullShare X)
    ∗ (∃ X, ⌜Left m c 5 t X⌝ ∗ owns (c : Thread nD τ) (ms0_5 t) fullShare X))

set_option maxHeartbeats 4800000 in
/-- The body at any point: which case it is in says which run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m c).owesAt () t.succ = (dats m c).owesAt () t.castSucc from rfl]
  rw [show (dats m c).Φ t.succ = PhiS m c (t.val + 1) t.isLt from rfl, PhiS_succ]
  have hN : t.val < 224 := lt_of_lt_of_eq t.isLt (show cfg0.N = 224 from N_0)
  rw [show (dats m c).leavesExact 0 t = owns (c : Thread nD τ) (ms0_0 t) fullShare ((dats m c).after 0 t) from by
    unfold Dat.leavesExact; rw [liveAt0_0 t], after0_0]
  rw [show (dats m c).leavesExact 1 t = owns (c : Thread nD τ) (ms0_1 t) fullShare ((dats m c).after 1 t) from by
    unfold Dat.leavesExact; rw [liveAt0_1 t], after0_1]
  rw [show (dats m c).leavesExact 2 t = owns (c : Thread nD τ) (ms0_2 t) fullShare ((dats m c).after 2 t) from by
    unfold Dat.leavesExact; rw [liveAt0_2 t], after0_2]
  by_cases h0 : t.val % 28 = 0
  · have h1 : ¬t.val % 28 = 27 := by omega
    rw [PhiS_castSucc m c t, accS_first m c t h0]
    by_cases hz : t.val = 0
    · rw [PhiS_zero m c _ _ hz, PhiA0_eq]
      iintro ⟨⟨HS0, Hg⟩, Ho, ⟨%d0, H0⟩, ⟨%d1, H1⟩, ⟨%d2, H2⟩, ⟨%d3, %hd3, H3⟩, ⟨%d4, %hd4, H4⟩, ⟨%d5, %hd5, H5⟩⟩
      iapply (run_A c (grid0.coords t) _ (hs0_0 t) _ (hs0_1 t) _ (hs0_2 t) _ (hs0_3 t) _ (hs0_4 t) _ (hs0_5 t) _ (Memref.isWhole_whole _) ((hcond0_0 t).mpr h0) (fun h => h1 ((hcond0_1 t).mp h)) (iblk m c 0 t) (iblk m c 1 t) Set.univ _)
      isplitl [H0]; · iexact H0
      isplitl [H1]; · iexact H1
      isplitl [HS0]; · iexact HS0
      iintro ⟨H0, H1, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]
      · iexists _; isplitr; swap; · iexact H3
        ipureintro; exact fun h => absurd h h1
      isplitl [H4]
      · iexists _; isplitr; swap; · iexact H4
        ipureintro; exact scales_kept m c t h1 d4 hd4
      iexists _; isplitr; swap; · iexact H5
      ipureintro; exact fun h => absurd h h1
    · rw [PhiS_pos m c _ _ hz]
      iintro ⟨⟨HS0, Hg⟩, Ho, ⟨%d0, H0⟩, ⟨%d1, H1⟩, ⟨%d2, H2⟩, ⟨%d3, %hd3, H3⟩, ⟨%d4, %hd4, H4⟩, ⟨%d5, %hd5, H5⟩⟩
      iapply (run_A c (grid0.coords t) _ (hs0_0 t) _ (hs0_1 t) _ (hs0_2 t) _ (hs0_3 t) _ (hs0_4 t) _ (hs0_5 t) _ (Memref.isWhole_whole _) ((hcond0_0 t).mpr h0) (fun h => h1 ((hcond0_1 t).mp h)) (iblk m c 0 t) (iblk m c 1 t) Set.univ _)
      isplitl [H0]; · iexact H0
      isplitl [H1]; · iexact H1
      isplitl [HS0]; · iexists _; iexact HS0
      iintro ⟨H0, H1, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]
      · iexists _; isplitr; swap; · iexact H3
        ipureintro; exact fun h => absurd h h1
      isplitl [H4]
      · iexists _; isplitr; swap; · iexact H4
        ipureintro; exact scales_kept m c t h1 d4 hd4
      iexists _; isplitr; swap; · iexact H5
      ipureintro; exact fun h => absurd h h1
  · have hz : t.val ≠ 0 := fun h => h0 (by omega)
    rw [PhiS_castSucc m c t, PhiS_pos m c _ _ hz]
    by_cases h1 : t.val % 28 = 27
    · have hW : tileW m c t = addf (k0_pay2 (accS m c (t.val - 1) (Nat.lt_of_le_of_lt (Nat.sub_le _ _) t.isLt)) (iblk m c 0 t) (iblk m c 1 t)) (iblk m c 2 t) :=
        congrArg (fun a => addf a _) (accS_next m c t h0)
      rw [accS_next m c t h0]
      iintro ⟨⟨HS0, Hg⟩, Ho, ⟨%d0, H0⟩, ⟨%d1, H1⟩, ⟨%d2, H2⟩, ⟨%d3, %hd3, H3⟩, ⟨%d4, %hd4, H4⟩, ⟨%d5, %hd5, H5⟩⟩
      iapply (run_C c (grid0.coords t) _ (hs0_0 t) _ (hs0_1 t) _ (hs0_2 t) _ (hs0_3 t) _ (hs0_4 t) _ (hs0_5 t) _ (Memref.isWhole_whole _) (fun h => h0 ((hcond0_0 t).mp h)) ((hcond0_1 t).mpr h1) (iblk m c 0 t) (iblk m c 1 t) (iblk m c 2 t) d4 _ Set.univ _)
      isplitl [H0]; · iexact H0
      isplitl [H1]; · iexact H1
      isplitl [H2]; · iexact H2
      isplitl [H3]; · iexists _; iexact H3
      isplitl [H4]; · iexact H4
      isplitl [H5]; · iexists _; iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]
      · iexists _; isplitr; swap; · iexact H3
        ipureintro; exact fun _ => (congrArg codesT hW).symm
      isplitl [H4]
      · iexists _; isplitr; swap; · iexact H4
        ipureintro; exact hW ▸ scales_put m c t h1 d4 hd4
      iexists _; isplitr; swap; · iexact H5
      ipureintro; exact fun _ => (congrArg residT hW).symm
    · rw [accS_next m c t h0]
      iintro ⟨⟨HS0, Hg⟩, Ho, ⟨%d0, H0⟩, ⟨%d1, H1⟩, ⟨%d2, H2⟩, ⟨%d3, %hd3, H3⟩, ⟨%d4, %hd4, H4⟩, ⟨%d5, %hd5, H5⟩⟩
      iapply (run_B c (grid0.coords t) _ (hs0_0 t) _ (hs0_1 t) _ (hs0_2 t) _ (hs0_3 t) _ (hs0_4 t) _ (hs0_5 t) _ (Memref.isWhole_whole _) (fun h => h0 ((hcond0_0 t).mp h)) (fun h => h1 ((hcond0_1 t).mp h)) (iblk m c 0 t) (iblk m c 1 t) _ Set.univ _)
      isplitl [H0]; · iexact H0
      isplitl [H1]; · iexact H1
      isplitl [HS0]; · iexact HS0
      iintro ⟨H0, H1, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]
      · iexists _; isplitr; swap; · iexact H3
        ipureintro; exact fun h => absurd h h1
      isplitl [H4]
      · iexists _; isplitr; swap; · iexact H4
        ipureintro; exact scales_kept m c t h1 d4 hd4
      iexists _; isplitr; swap; · iexact H5
      ipureintro; exact fun h => absurd h h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : Pipeline.BodyObligationRel (dats (F := F) m c) (defs₀ (F := F)) Variants.none () Set.univ held (Left m c) := fun t => by
  rw [bigSep_W0, bigSep_W0, defs₀_row]
  exact triple_restated (sound_body m c t) rfl .rfl fun _ => .rfl

theorem hin (c : Dev nD) : Pipeline.ΦA spec0 c ⊢ (dats m c).Φ 0 := by
  rw [show (dats m c).Φ 0 = PhiS m c 0 (Nat.zero_le _) from rfl, PhiS_zero m c 0 _ rfl]

/-- After the last point the accumulator is forgotten. -/
theorem hout (c : Dev nD) : (dats m c).Φ (Fin.last cfg0.N) ⊢ Pipeline.ΦA spec0 c := by
  rw [show (dats m c).Φ (Fin.last cfg0.N) = PhiS m c cfg0.N le_rfl from rfl, PhiS_pos m c _ _ (by have : cfg0.N = 224 := N_0; omega), PhiA0_eq]
  iintro ⟨HS0, Hg⟩
  isplitl [HS0]
  · iexists _; iexact HS0
  iexact Hg

/-! ## The run and the frame -/

set_option backward.isDefEq.respectTransparency.types false in
/-- The run: every output's array is built of what the body may have left, and every counter ends at zero. -/
theorem run_main_quiescent : θ_run defs (onTc (τ := τ) (main (F := F))) (s₀ m ρ) (fun r => Pipeline.RDat.FramePost (cfgs 0) (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (rdats m) (V m)) :=
  (θ_run defs _ _).mono (fun _ h => h.1) (run_main_quiescent m ρ)

/-- The frame: the kernel ends, its arguments are as they were, every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (rframe_of m ρ (rdats m) (A_eq m) (run_main m ρ)) ((θ_run defs _ _).mono (fun _ h => h.2) (run_main_quiescent m ρ))

end Cert.KernelIdeal.Gen

end
-- ==== Proof.KIdx.lean ====
/- Where each window's block lies in its array, and the blocks' elements. -/
module

public import proofs.«01_k».proof.Proof.KIData

@[expose] public section
set_option maxRecDepth 16384
noncomputable section
namespace Cert.KernelIdeal.Gen

open Idealize.ShloMosaic Idealize.ShloMosaic.TcCoe
open Idealize.ShloMosaic.ValueIdx

variable {F : FTy → Type} [FloatOps F]
variable (m : (ℓ : Loc nD τ sig) → Buf (Elt F) ℓ)

theorem crd0 (t : Fin cfg0.N) : (grid0.coords t 0).val = t.val / 56 % 4 := Pipeline.Grid.coords_val t 0 (by decide) rfl
theorem crd1 (t : Fin cfg0.N) : (grid0.coords t 1).val = t.val / 28 % 2 := Pipeline.Grid.coords_val t 1 (by decide) rfl
theorem crd2 (t : Fin cfg0.N) : (grid0.coords t 2).val = t.val % 28 :=
  (Pipeline.Grid.coords_val t 2 (by decide) rfl : _ = t.val / 1 % 28).trans (by rw [Nat.div_one])

theorem ofNat_small (n : ℕ) (h : n < 28) : (BitVec.ofNat 32 n).toNat = n := by
  rw [BitVec.toNat_ofNat]; exact Nat.mod_eq_of_lt (by omega)

theorem idx0_0 (t : Fin cfg0.N) : win0_0.index t 0 = t.val % 28 := by
  show (BitVec.ofNat 32 (grid0.coords t 2).val).toNat = _
  rw [crd2]; exact ofNat_small _ (by omega)

theorem idx0_1 (t : Fin cfg0.N) : win0_0.index t 1 = t.val / 56 % 4 := by
  show (BitVec.ofNat 32 (grid0.coords t 0).val).toNat = _
  rw [crd0]; exact ofNat_small _ (by omega)

theorem idx1_0 (t : Fin cfg0.N) : win0_1.index t 0 = t.val % 28 := by
  show (BitVec.ofNat 32 (grid0.coords t 2).val).toNat = _
  rw [crd2]; exact ofNat_small _ (by omega)

theorem idx1_1 (t : Fin cfg0.N) : win0_1.index t 1 = t.val / 28 % 2 := by
  show (BitVec.ofNat 32 (grid0.coords t 1).val).toNat = _
  rw [crd1]; exact ofNat_small _ (by omega)

theorem idx2_0 (t : Fin cfg0.N) : win0_2.index t 0 = t.val / 56 % 4 := by
  show (BitVec.ofNat 32 (grid0.coords t 0).val).toNat = _
  rw [crd0]; exact ofNat_small _ (by omega)

theorem idx2_1 (t : Fin cfg0.N) : win0_2.index t 1 = t.val / 28 % 2 := by
  show (BitVec.ofNat 32 (grid0.coords t 1).val).toNat = _
  rw [crd1]; exact ofNat_small _ (by omega)

theorem idx3_0 (t : Fin cfg0.N) : win0_3.index t 0 = t.val / 56 % 4 := by
  show (BitVec.ofNat 32 (grid0.coords t 0).val).toNat = _
  rw [crd0]; exact ofNat_small _ (by omega)

theorem idx3_1 (t : Fin cfg0.N) : win0_3.index t 1 = t.val / 28 % 2 := by
  show (BitVec.ofNat 32 (grid0.coords t 1).val).toNat = _
  rw [crd1]; exact ofNat_small _ (by omega)

theorem idx4_0 (t : Fin cfg0.N) : win0_4.index t 0 = t.val / 56 % 4 := by
  show (BitVec.ofNat 32 (grid0.coords t 0).val).toNat = _
  rw [crd0]; exact ofNat_small _ (by omega)

theorem idx4_1 (t : Fin cfg0.N) : win0_4.index t 1 = 0 := by
  rfl

theorem idx5_0 (t : Fin cfg0.N) : win0_5.index t 0 = t.val / 56 % 4 := by
  show (BitVec.ofNat 32 (grid0.coords t 0).val).toNat = _
  rw [crd0]; exact ofNat_small _ (by omega)

theorem idx5_1 (t : Fin cfg0.N) : win0_5.index t 1 = t.val / 28 % 2 := by
  show (BitVec.ofNat 32 (grid0.coords t 1).val).toNat = _
  rw [crd1]; exact ofNat_small _ (by omega)

theorem blk0_apply (c : Dev nD) (t : Fin cfg0.N) (y0 : Fin 1024) (y1 : Fin 896) :
    iblk m c 0 t (ix2 y0 y1) = m ((c.tc : Thread nD τ).loc main_arg0)
      (ix2 (⟨1024 * (t.val % 28) + y0.val, by omega⟩ : Fin 28672) (⟨896 * (t.val / 56 % 4) + y1.val, by omega⟩ : Fin 3584)) := by
  show m ((c.tc : Thread nD τ).loc main_arg0) ((win0_0.rect t).emb (ix2 y0 y1)) = _
  refine congrArg (m ((c.tc : Thread nD τ).loc main_arg0)) (Shape.idx_ext₂ ?_ ?_)
  · refine (Pipeline.Window.rect_emb_val win0_0 t (ix2 y0 y1) 0).trans ?_
    rw [idx0_0]
    show t.val % 28 * 1024 + y0.val = 1024 * (t.val % 28) + y0.val
    rw [Nat.mul_comm]
  · refine (Pipeline.Window.rect_emb_val win0_0 t (ix2 y0 y1) 1).trans ?_
    rw [idx0_1]
    show t.val / 56 % 4 * 896 + y1.val = 896 * (t.val / 56 % 4) + y1.val
    rw [Nat.mul_comm]

theorem blk1_apply (c : Dev nD) (t : Fin cfg0.N) (y0 : Fin 1024) (y1 : Fin 1792) :
    iblk m c 1 t (ix2 y0 y1) = m ((c.tc : Thread nD τ).loc main_arg1)
      (ix2 (⟨1024 * (t.val % 28) + y0.val, by omega⟩ : Fin 28672) (⟨1792 * (t.val / 28 % 2) + y1.val, by omega⟩ : Fin 3584)) := by
  show m ((c.tc : Thread nD τ).loc main_arg1) ((win0_1.rect t).emb (ix2 y0 y1)) = _
  refine congrArg (m ((c.tc : Thread nD τ).loc main_arg1)) (Shape.idx_ext₂ ?_ ?_)
  · refine (Pipeline.Window.rect_emb_val win0_1 t (ix2 y0 y1) 0).trans ?_
    rw [idx1_0]
    show t.val % 28 * 1024 + y0.val = 1024 * (t.val % 28) + y0.val
    rw [Nat.mul_comm]
  · refine (Pipeline.Window.rect_emb_val win0_1 t (ix2 y0 y1) 1).trans ?_
    rw [idx1_1]
    show t.val / 28 % 2 * 1792 + y1.val = 1792 * (t.val / 28 % 2) + y1.val
    rw [Nat.mul_comm]

theorem blk2_apply (c : Dev nD) (t : Fin cfg0.N) (y0 : Fin 896) (y1 : Fin 1792) :
    iblk m c 2 t (ix2 y0 y1) = m ((c.tc : Thread nD τ).loc main_arg2)
      (ix2 (⟨896 * (t.val / 56 % 4) + y0.val, by omega⟩ : Fin 3584) (⟨1792 * (t.val / 28 % 2) + y1.val, by omega⟩ : Fin 3584)) := by
  show m ((c.tc : Thread nD τ).loc main_arg2) ((win0_2.rect t).emb (ix2 y0 y1)) = _
  refine congrArg (m ((c.tc : Thread nD τ).loc main_arg2)) (Shape.idx_ext₂ ?_ ?_)
  · refine (Pipeline.Window.rect_emb_val win0_2 t (ix2 y0 y1) 0).trans ?_
    rw [idx2_0]
    show t.val / 56 % 4 * 896 + y0.val = 896 * (t.val / 56 % 4) + y0.val
    rw [Nat.mul_comm]
  · refine (Pipeline.Window.rect_emb_val win0_2 t (ix2 y0 y1) 1).trans ?_
    rw [idx2_1]
    show t.val / 28 % 2 * 1792 + y1.val = 1792 * (t.val / 28 % 2) + y1.val
    rw [Nat.mul_comm]

end Cert.KernelIdeal.Gen
end
-- ==== Proof.Quant.lean ====
module

public import Idealize.ShloMosaic.Lib.Pipeline.Value
public import Idealize.ShloMosaic.Lib.ValueIdx
public import Idealize.ShloMosaic.PureOps.Ideal.Laws

@[expose] public section
set_option maxRecDepth 16384
noncomputable section
namespace Cert.Quant

open Idealize.ShloMosaic

/-- One number of a block, an extended real. -/
abbrev R := Ideal .f32

/-- The largest absolute value of a block. -/
def amax (u : Fin 128 → R) : R :=
  (Finset.univ : Finset (Fin 128)).fold max (FloatOps.ofBits .f32 0xFF800000#32 : R) fun k => FloatOps.absf (u k)

/-- The scale of a block: one for a block of zeros, else a 127th of the largest absolute value. -/
def scl (u : Fin 128 → R) : R :=
  Scalar.select (FloatOps.cmpf .oeq (amax u) (Scalar.ofBits .f32 0x00000000#32 : R)) (Scalar.ofBits .f32 0x3F800000#32 : R)
    (FloatOps.divf (amax u) (Scalar.ofBits .f32 0x42FE0000#32 : R))

/-- A number rounded to an integer and clipped to ±127. -/
def rc (x : R) : R :=
  FloatOps.minimumf (Scalar.ofBits .f32 0x42FE0000#32 : R) (FloatOps.maximumf (Scalar.ofBits .f32 0xC2FE0000#32 : R) (FloatOps.roundeven x))

/-- The code of entry `k`, still a float. -/
def clp (u : Fin 128 → R) (k : Fin 128) : R := rc (FloatOps.divf (u k) (scl u))

/-- The code of entry `k`. -/
def cod (u : Fin 128 → R) (k : Fin 128) : BitVec 8 := FloatOps.fptosi 8 (clp u k)

/-- What the code of entry `k` leaves out. -/
def res (u : Fin 128 → R) (k : Fin 128) : R := FloatOps.subf (u k) (FloatOps.mulf (clp u k) (scl u))

theorem lo_eq : (Scalar.ofBits .f32 0xC2FE0000#32 : R) = ((-127 : ℝ) : EReal) := by
  show Ideal.ofBits .f32 0xC2FE0000#32 = _
  simp [Ideal.ofBits, Ideal.ieee, -EReal.coe_mul]; norm_num

theorem hi_eq : (Scalar.ofBits .f32 0x42FE0000#32 : R) = ((127 : ℝ) : EReal) := by
  show Ideal.ofBits .f32 0x42FE0000#32 = _
  simp [Ideal.ofBits, Ideal.ieee, -EReal.coe_mul]; norm_num

/-- A rounded and clipped number is an integer between -127 and 127. -/
theorem rc_int (x : R) : ∃ n : ℤ, -127 ≤ n ∧ n ≤ 127 ∧ rc x = (((n : ℤ) : ℝ) : EReal) := by
  unfold rc
  rw [lo_eq, hi_eq]
  show ∃ n : ℤ, -127 ≤ n ∧ n ≤ 127 ∧ min ((127 : ℝ) : EReal) (max ((-127 : ℝ) : EReal) (Ideal.liftRound Ideal.roundHalfEven x)) = (((n : ℤ) : ℝ) : EReal)
  induction x using EReal.rec with
  | bot => exact ⟨-127, by norm_num, by norm_num, by
      show min ((127 : ℝ) : EReal) (max ((-127 : ℝ) : EReal) ⊥) = _
      rw [max_eq_left bot_le, min_eq_right (by norm_cast)]; norm_num⟩
  | top => exact ⟨127, by norm_num, by norm_num, by
      show min ((127 : ℝ) : EReal) (max ((-127 : ℝ) : EReal) ⊤) = _
      rw [max_eq_right le_top, min_eq_left le_top]; norm_num⟩
  | coe r =>
      refine ⟨min 127 (max (-127) (Ideal.roundHalfEven r)), by omega, by omega, ?_⟩
      show min ((127 : ℝ) : EReal) (max ((-127 : ℝ) : EReal) (((Ideal.roundHalfEven r : ℤ) : ℝ) : EReal)) = _
      rw [← EReal.coe_strictMono.monotone.map_max, ← EReal.coe_strictMono.monotone.map_min]
      push_cast
      rfl

/-- Converted to a byte and back, it is as it was. -/
theorem round_trip (x : R) : (FloatOps.sitofp .f32 (FloatOps.fptosi 8 (rc x) : BitVec 8) : R) = rc x := by
  obtain ⟨n, h1, h2, hx⟩ := rc_int x
  rw [hx]
  show ((((Ideal.fptosi 8 (((n : ℤ) : ℝ) : EReal)).toInt : ℤ) : ℝ) : EReal) = _
  have e : Ideal.fptosi 8 (((n : ℤ) : ℝ) : EReal) = BitVec.ofInt 8 n := by
    show BitVec.ofInt 8 (max _ (min _ (if (0 : ℝ) ≤ (n : ℝ) then ⌊(n : ℝ)⌋ else ⌈(n : ℝ)⌉))) = _
    rw [Int.floor_intCast, Int.ceil_intCast, ite_self]
    congr 1
    norm_num
    omega
  rw [e]
  congr 2
  rw [BitVec.toInt_ofInt]
  exact Int.bmod_eq_of_le (by norm_num; omega) (by norm_num; omega)

end Cert.Quant
end
-- ==== Proof.Grad.lean ====
/- The product of the two arrays, summed over all tokens, in one piece and in 28 pieces of 1024. -/
module

public import proofs.«01_k».proof.Proof.Quant

@[expose] public section
noncomputable section
namespace Cert.Quant

open Idealize.ShloMosaic Idealize.ShloMosaic.ValueIdx
open scoped BigOperators

variable (X Y : (⟨2, ![28672, 3584]⟩ : Shape).Idx → EReal)

/-- One entry of the product. -/
def grad (I J : Fin 3584) : EReal := ∑ T : Fin 28672, X (ix2 T I) * Y (ix2 T J)

/-- One token's part, by number. -/
def part (I J : Fin 3584) (T : ℕ) : EReal := if h : T < 28672 then X (ix2 ⟨T, h⟩ I) * Y (ix2 ⟨T, h⟩ J) else 0

theorem sum_pieces (f : ℕ → EReal) (n : ℕ) :
    ∑ T ∈ Finset.range (1024 * n), f T = ∑ s ∈ Finset.range n, ∑ a : Fin 1024, f (1024 * s + a.val) := by
  induction n with
  | zero => simp
  | succ n ih =>
    rw [Finset.sum_range_succ, ← ih, Nat.mul_succ, Finset.sum_range_add, Finset.sum_range (fun a => f (1024 * n + a))]

theorem grad_eq (I J : Fin 3584) :
    grad X Y I J = ∑ s ∈ Finset.range 28, ∑ a : Fin 1024, part X Y I J (1024 * s + a.val) := by
  rw [← sum_pieces, Finset.sum_range]
  refine Finset.sum_congr rfl fun T _ => ?_
  unfold part
  rw [dif_pos T.isLt]

variable (E : (⟨2, ![3584, 3584]⟩ : Shape).Idx → EReal)

/-- What is quantised: the product and the old error. -/
def vAll : (⟨2, ![3584, 3584]⟩ : Shape).Idx → R := fun z => (grad X Y (z 0) (z 1) + E z : EReal)

/-- The 128 numbers of block `b` of row `i`. -/
def blkOf (v : (⟨2, ![3584, 3584]⟩ : Shape).Idx → R) (i : Fin 3584) (b : Fin 28) : Fin 128 → R :=
  fun k => v (ix2 i (⟨128 * b.val + k.val, by omega⟩ : Fin 3584))

/-- The block of a column. -/
def cb (C : Fin 3584) : Fin 28 := ⟨C.val / 128, by omega⟩
/-- Its lane there. -/
def cl (C : Fin 3584) : Fin 128 := ⟨C.val % 128, by omega⟩

/-- The codes. -/
def outCodes : (⟨2, ![3584, 3584]⟩ : Shape).Idx → BitVec 8 := fun z => cod (blkOf (vAll X Y E) (z 0) (cb (z 1))) (cl (z 1))
/-- The scales. -/
def outScales : (⟨2, ![3584, 28]⟩ : Shape).Idx → R := fun z => scl (blkOf (vAll X Y E) (z 0) (z 1))
/-- The new error. -/
def outResid : (⟨2, ![3584, 3584]⟩ : Shape).Idx → R := fun z => res (blkOf (vAll X Y E) (z 0) (cb (z 1))) (cl (z 1))

end Cert.Quant
end
-- ==== Proof.KSum.lean ====
/- The accumulator at its last point is the whole product. -/
module

public import proofs.«01_k».proof.Proof.KIdx
public import proofs.«01_k».proof.Proof.Grad

@[expose] public section
set_option maxRecDepth 16384
noncomputable section
namespace Cert.KernelIdeal.Gen

open Idealize.ShloMosaic Idealize.ShloMosaic.TcCoe
open Idealize.ShloMosaic.ValueIdx
open scoped BigOperators

variable (m : (ℓ : Loc nD τ sig) → Buf (Elt Ideal) ℓ)

abbrev DK := dot_S1024x896_S1024x1792_S896x1792_0_0_1_1_n_n

theorem dk_l0 (j : S896x1792.Idx) (k : DK.contr.Idx) : (DK.lhsIdx j k 0 : ℕ) = k ⟨0, by decide⟩ := by
  simp [DotDims.lhsIdx, DK, dot_S1024x896_S1024x1792_S896x1792_0_0_1_1_n_n]; rfl
theorem dk_l1 (j : S896x1792.Idx) (k : DK.contr.Idx) : (DK.lhsIdx j k 1 : ℕ) = j 0 := by
  simp [DotDims.lhsIdx, DK, dot_S1024x896_S1024x1792_S896x1792_0_0_1_1_n_n]; rfl
theorem dk_r0 (j : S896x1792.Idx) (k : DK.contr.Idx) : (DK.rhsIdx j k 0 : ℕ) = k ⟨0, by decide⟩ := by
  simp [DotDims.rhsIdx, DK, dot_S1024x896_S1024x1792_S896x1792_0_0_1_1_n_n]; rfl
theorem dk_r1 (j : S896x1792.Idx) (k : DK.contr.Idx) : (DK.rhsIdx j k 1 : ℕ) = j 1 := by
  simp [DotDims.rhsIdx, DK, dot_S1024x896_S1024x1792_S896x1792_0_0_1_1_n_n]; rfl

theorem dk_rank : DK.contr.rank = 1 := rfl
theorem dk_size : DK.contr.size ⟨0, by decide⟩ = 1024 := rfl

/-- One point's step: the product over its 1024 tokens is added. -/
theorem pay2_apply (acc : Vec Ideal S896x1792 .f32) (x : Vec Ideal S1024x896 .bf16) (y : Vec Ideal S1024x1792 .bf16) (r : Fin 896) (C : Fin 1792) :
    (k0_pay2 acc x y (ix2 r C) : EReal) = acc (ix2 r C) + ∑ a : Fin 1024, (x (ix2 a r) : EReal) * y (ix2 a C) := by
  unfold k0_pay2
  simp only [shapeCast_self, matmul]
  show (acc (ix2 r C) : EReal) + (FloatOps.matmul (F := Ideal) (φ₁ := .bf16) (φ₂ := .bf16) DK none x y (constant S896x1792 .f32 0x00000000#32) (ix2 r C) : EReal) = _
  refine congrArg (fun z : EReal => (acc (ix2 r C) : EReal) + z) ?_
  refine (Ideal.matmul_constant_zero_apply (φ₁ := .bf16) (φ₂ := .bf16) DK none x y (ix2 r C)).trans ?_
  refine (Equiv.sum_comp (contrEquiv1 DK 1024 dk_rank dk_size).symm _).symm.trans ?_
  refine Finset.sum_congr rfl fun a _ => ?_
  have e := contrEquiv1_symm_val DK 1024 dk_rank dk_size a
  exact congrArg₂ (fun p q : EReal => p * q)
    (congrArg x (Shape.idx_ext₂ ((dk_l0 _ _).trans e) (dk_l1 _ _)))
    (congrArg y (Shape.idx_ext₂ ((dk_r0 _ _).trans e) (dk_r1 _ _)))

/-- The row of the array that row `r` of point `t`'s tile is. -/
def gRow (t : Fin cfg0.N) (r : Fin 896) : Fin 3584 := ⟨896 * (t.val / 56 % 4) + r.val, by omega⟩
/-- The column of the array that column `C` of point `t`'s tile is. -/
def gCol (t : Fin cfg0.N) (C : Fin 1792) : Fin 3584 := ⟨1792 * (t.val / 28 % 2) + C.val, by omega⟩

/-- The first argument. -/
abbrev argX (c : Dev nD) : (⟨2, ![28672, 3584]⟩ : Shape).Idx → EReal := m ((c.tc : Thread nD τ).loc main_arg0)
/-- The second. -/
abbrev argY (c : Dev nD) : (⟨2, ![28672, 3584]⟩ : Shape).Idx → EReal := m ((c.tc : Thread nD τ).loc main_arg1)
/-- The third. -/
abbrev argE (c : Dev nD) : (⟨2, ![3584, 3584]⟩ : Shape).Idx → EReal := m ((c.tc : Thread nD τ).loc main_arg2)

/-- What one point adds. -/
theorem step_apply (c : Dev nD) (t : Fin cfg0.N) (acc : Vec Ideal S896x1792 .f32) (r : Fin 896) (C : Fin 1792) :
    (k0_pay2 acc (iblk m c 0 t) (iblk m c 1 t) (ix2 r C) : EReal)
      = acc (ix2 r C) + ∑ a : Fin 1024, Quant.part (argX m c) (argY m c) (gRow t r) (gCol t C) (1024 * (t.val % 28) + a.val) := by
  refine (pay2_apply _ _ _ r C).trans ?_
  refine congrArg (fun z : EReal => (acc (ix2 r C) : EReal) + z) (Finset.sum_congr rfl fun a _ => ?_)
  unfold Quant.part
  rw [dif_pos (by have := a.isLt; omega)]
  exact congrArg₂ (fun p q : EReal => p * q) (blk0_apply m c t a r) (blk1_apply m c t a C)

theorem pay1_apply (y : S896x1792.Idx) : (k0_pay1 (F := Ideal) y : EReal) = 0 := by
  unfold k0_pay1
  simp only [shapeCast_self]
  exact Ideal.ofBits_zero_f32

/-- The accumulator after a point: the tokens up to there. -/
theorem accS_apply (c : Dev nD) (r : Fin 896) (C : Fin 1792) : ∀ (n : ℕ) (t : Fin cfg0.N), t.val = n →
    (accS m c t.val t.isLt (ix2 r C) : EReal)
      = ∑ s ∈ Finset.range (t.val % 28 + 1), ∑ a : Fin 1024, Quant.part (argX m c) (argY m c) (gRow t r) (gCol t C) (1024 * s + a.val) := by
  intro n
  induction n with
  | zero =>
    intro t ht
    rw [accS_first m c t (by omega), step_apply, pay1_apply, zero_add, ht, Finset.sum_range_one]
  | succ n ih =>
    intro t ht
    by_cases h0 : t.val % 28 = 0
    · rw [accS_first m c t h0, step_apply, pay1_apply, zero_add, h0, Finset.sum_range_one]
    · have hlt : n < cfg0.N := by have := t.isLt; omega
      have hi := ih ⟨n, hlt⟩ rfl
      have er : gRow (⟨n, hlt⟩ : Fin cfg0.N) r = gRow t r := Fin.ext (by show 896 * (n / 56 % 4) + _ = 896 * (t.val / 56 % 4) + _; omega)
      have ec : gCol (⟨n, hlt⟩ : Fin cfg0.N) C = gCol t C := Fin.ext (by show 1792 * (n / 28 % 2) + _ = 1792 * (t.val / 28 % 2) + _; omega)
      rw [er, ec] at hi
      rw [accS_next m c t h0, step_apply, Finset.sum_range_succ]
      congr 1
      have en : t.val - 1 = n := by omega
      have em : t.val % 28 = n % 28 + 1 := by omega
      rw [em, ← hi]
      simp only [en]

/-- The tile that is quantised: the whole product and the old error. -/
theorem tileW_apply (c : Dev nD) (t : Fin cfg0.N) (h27 : t.val % 28 = 27) (r : Fin 896) (C : Fin 1792) :
    (tileW m c t (ix2 r C) : EReal)
      = Quant.grad (argX m c) (argY m c) (gRow t r) (gCol t C) + argE m c (ix2 (gRow t r) (gCol t C)) := by
  show (accS m c t.val t.isLt (ix2 r C) : EReal) + iblk m c 2 t (ix2 r C) = _
  refine congrArg₂ (fun p q : EReal => p + q) ?_ (blk2_apply m c t r C)
  rw [accS_apply m c r C t.val t rfl, h27, Quant.grad_eq]

end Cert.KernelIdeal.Gen
end
-- ==== Proof.KQuant.lean ====
/- The kernel's quantiser over one tile, read at an index. -/
module

public import proofs.«01_k».proof.Proof.LoopVal
public import proofs.«01_k».proof.Proof.Quant

@[expose] public section
set_option maxRecDepth 16384
noncomputable section
namespace Cert.KernelIdeal.Gen

open Idealize.ShloMosaic Idealize.ShloMosaic.TcCoe Idealize.ShloMosaic.Tactic
open Idealize.ShloMosaic.ValueIdx

theorem qScale_apply (vb : FVec Ideal S32x128 .f32) (r : Fin 32) :
    qScale vb (ix2 r (0 : Fin 1)) = Quant.scl (fun k => vb (ix2 r k)) := by
  have e : (shapeCast S32x1 (multiReduction .maximumf [1] S32 (absf vb) 0xFF800000#32 reduces_S32x128_S32 (.inl rfl) rfl : FVec Ideal S32 .f32)
      shapeCasts_S32_S32x1) (ix2 r (0 : Fin 1)) = Quant.amax (fun k => vb (ix2 r k)) := by
    rw [shapeCast_apply _ _ (ix2 r (0 : Fin 1)) (ix1 r) (by rw [Shape.rowMajor_val_one, Shape.rowMajor_val_two]; show r.val = r.val * 1 + 0; omega)]
    refine (Ideal.multiReduction_maximumf_single _ _ _ _ _ _).trans ?_
    unfold Quant.amax
    congr 1
    funext k
    show FloatOps.absf (vb _) = FloatOps.absf (vb _)
    refine congrArg (fun z => FloatOps.absf (vb z)) ?_
    funext a
    match a with
    | ⟨0, _⟩ => rfl
    | ⟨1, _⟩ => rfl
  unfold qScale Quant.scl
  simp only [select_apply]
  show Scalar.select (FloatOps.cmpf .oeq _ _) _ (FloatOps.divf _ _) = _
  rw [e]
  rfl

theorem qClip_apply (vb : FVec Ideal S32x128 .f32) (r : Fin 32) (k : Fin 128) :
    qClip vb (ix2 r k) = Quant.clp (fun k => vb (ix2 r k)) k := by
  have e : broadcastTo S32x128 (qScale vb) broadcasts_S32x1_S32x128 (ix2 r k) = Quant.scl (fun k => vb (ix2 r k)) := by
    rw [← qScale_apply]
    exact broadcastTo_apply _ _ (ix2 r k) (ix2 r (0 : Fin 1)) fun a => by
      match a with
      | ⟨0, _⟩ => rfl
      | ⟨1, _⟩ => rfl
  unfold Quant.clp
  rw [← e]
  rfl

theorem qCode_apply (vb : FVec Ideal S32x128 .f32) (r : Fin 32) (k : Fin 128) :
    qCode vb (ix2 r k) = Quant.cod (fun k => vb (ix2 r k)) k := by
  unfold Quant.cod
  rw [← qClip_apply]
  rfl

theorem qResid_apply (vb : FVec Ideal S32x128 .f32) (r : Fin 32) (k : Fin 128) :
    qResid vb (ix2 r k) = Quant.res (fun k => vb (ix2 r k)) k := by
  have e : broadcastTo S32x128 (qScale vb) broadcasts_S32x1_S32x128 (ix2 r k) = Quant.scl (fun k => vb (ix2 r k)) := by
    rw [← qScale_apply]
    exact broadcastTo_apply _ _ (ix2 r k) (ix2 r (0 : Fin 1)) fun a => by
      match a with
      | ⟨0, _⟩ => rfl
      | ⟨1, _⟩ => rfl
  unfold Quant.res
  rw [← e, ← qClip_apply]
  rfl

theorem qBlk_apply (v : FVec Ideal S32x1792 .f32) (b : Fin 14) (r : Fin 32) (k : Fin 128) :
    qBlk v b (ix2 r k) = v (ix2 r (⟨128 * b.val + k.val, by omega⟩ : Fin 1792)) := by
  unfold qBlk
  match b with
  | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ | ⟨11, _⟩ | ⟨12, _⟩ | ⟨13, _⟩ =>
    refine extractStridedSlice_apply _ v _ (ix2 r k) _ fun a => ?_
    match a with
    | ⟨0, _⟩ => show r.val = 0 + r.val; omega
    | ⟨1, _⟩ => rfl

/-- The 128 numbers of the block that column `C` of a tile's row lies in. -/
def tblk (W : FVec Ideal S896x1792 .f32) (r : Fin 896) (b : Fin 14) : Fin 128 → Quant.R :=
  fun k => W (ix2 r (⟨128 * b.val + k.val, by omega⟩ : Fin 1792))

theorem rows_blk (W : FVec Ideal S896x1792 .f32) (r : Fin 896) (b : Fin 14) :
    (fun k => qBlk (rowsOf W (grp r)) b (ix2 (sub r) k)) = tblk W r b := by
  funext k
  rw [qBlk_apply]
  unfold rowsOf tblk
  refine congrArg W ?_
  refine Shape.idx_ext₂ ?_ rfl
  show 32 * (r.val / 32) + r.val % 32 = r.val
  omega

theorem sclT_apply (W : FVec Ideal S896x1792 .f32) (r : Fin 896) (b : Fin 14) :
    qScale (qBlk (rowsOf W (grp r)) b) (ix2 (sub r) (0 : Fin 1)) = Quant.scl (tblk W r b) := by
  rw [qScale_apply, rows_blk]

theorem tripCodes_apply (v : FVec Ideal S32x1792 .f32) (r : Fin 32) (C : Fin 1792) :
    tripCodes v (ix2 r C) = qCode (qBlk v ⟨C.val / 128, by omega⟩) (ix2 r (⟨C.val % 128, by omega⟩ : Fin 128)) :=
  concatenate_ofFn_apply (s₁ := S32x128) (t := S32x1792) 1 (fun b : Fin 14 => qCode (qBlk v b)) _ rfl 128 rfl (ix2 r C)
    ⟨C.val / 128, by omega⟩ rfl (ix2 r (⟨C.val % 128, by omega⟩ : Fin 128)) rfl fun b hb => by
      match b with
      | ⟨0, _⟩ => rfl
      | ⟨1, _⟩ => exact absurd rfl hb

theorem tripResid_apply (v : FVec Ideal S32x1792 .f32) (r : Fin 32) (C : Fin 1792) :
    tripResid v (ix2 r C) = qResid (qBlk v ⟨C.val / 128, by omega⟩) (ix2 r (⟨C.val % 128, by omega⟩ : Fin 128)) :=
  concatenate_ofFn_apply (s₁ := S32x128) (t := S32x1792) 1 (fun b : Fin 14 => qResid (qBlk v b)) _ rfl 128 rfl (ix2 r C)
    ⟨C.val / 128, by omega⟩ rfl (ix2 r (⟨C.val % 128, by omega⟩ : Fin 128)) rfl fun b hb => by
      match b with
      | ⟨0, _⟩ => rfl
      | ⟨1, _⟩ => exact absurd rfl hb

theorem codesT_apply (W : FVec Ideal S896x1792 .f32) (r : Fin 896) (C : Fin 1792) :
    codesT W (ix2 r C) = Quant.cod (tblk W r ⟨C.val / 128, by omega⟩) ⟨C.val % 128, by omega⟩ := by
  show tripCodes (rowsOf W (grp r)) (ix2 (sub r) C) = _
  rw [tripCodes_apply, qCode_apply, rows_blk]

theorem residT_apply (W : FVec Ideal S896x1792 .f32) (r : Fin 896) (C : Fin 1792) :
    residT W (ix2 r C) = Quant.res (tblk W r ⟨C.val / 128, by omega⟩) ⟨C.val % 128, by omega⟩ := by
  show tripResid (rowsOf W (grp r)) (ix2 (sub r) C) = _
  rw [tripResid_apply, qResid_apply, rows_blk]

end Cert.KernelIdeal.Gen
end
-- ==== Proof.KFinal.lean ====
/- The idealized kernel's three results. -/
module

public import proofs.«01_k».proof.Proof.KIFrame
public import proofs.«01_k».proof.Proof.KSum
public import proofs.«01_k».proof.Proof.KQuant
public import Idealize.ShloMosaic.Lib.Pipeline.ArrRel

@[expose] public section
set_option maxRecDepth 16384
noncomputable section
namespace Cert.KernelIdeal.Gen

open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The array that is quantised. -/
abbrev vK (c : Dev nD) : (⟨2, ![3584, 3584]⟩ : Shape).Idx → Quant.R := Quant.vAll (argX m c) (argY m c) (argE m c)

/-- Block `b` of a tile's row is block `14 j + b` of the array's row. -/
theorem tblk_eq (c : Dev nD) (t : Fin cfg0.N) (h27 : t.val % 28 = 27) (r : Fin 896) (b : Fin 14) (b' : Fin 28)
    (hb : b'.val = 14 * (t.val / 28 % 2) + b.val) : tblk (tileW m c t) r b = Quant.blkOf (vK m c) (gRow t r) b' := by
  funext k
  refine (tileW_apply m c t h27 r _).trans ?_
  have e : gCol t (⟨128 * b.val + k.val, by omega⟩ : Fin 1792) = (⟨128 * b'.val + k.val, by omega⟩ : Fin 3584) :=
    Fin.ext (by show 1792 * (t.val / 28 % 2) + (128 * b.val + k.val) = 128 * b'.val + k.val; omega)
  rw [e]
  rfl

theorem codes_tile (c : Dev nD) (t : Fin cfg0.N) (h27 : t.val % 28 = 27) (r : Fin 896) (C : Fin 1792) :
    codesT (tileW m c t) (ix2 r C) = Quant.outCodes (argX m c) (argY m c) (argE m c) (ix2 (gRow t r) (gCol t C)) := by
  rw [codesT_apply, tblk_eq m c t h27 r _ (Quant.cb (gCol t C)) (by show (1792 * (t.val / 28 % 2) + C.val) / 128 = 14 * (t.val / 28 % 2) + C.val / 128; omega)]
  show _ = Quant.cod (Quant.blkOf (vK m c) (gRow t r) (Quant.cb (gCol t C))) (Quant.cl (gCol t C))
  exact congrArg _ (Fin.ext (by show C.val % 128 = (1792 * (t.val / 28 % 2) + C.val) % 128; omega))

theorem resid_tile (c : Dev nD) (t : Fin cfg0.N) (h27 : t.val % 28 = 27) (r : Fin 896) (C : Fin 1792) :
    residT (tileW m c t) (ix2 r C) = Quant.outResid (argX m c) (argY m c) (argE m c) (ix2 (gRow t r) (gCol t C)) := by
  rw [residT_apply, tblk_eq m c t h27 r _ (Quant.cb (gCol t C)) (by show (1792 * (t.val / 28 % 2) + C.val) / 128 = 14 * (t.val / 28 % 2) + C.val / 128; omega)]
  show _ = Quant.res (Quant.blkOf (vK m c) (gRow t r) (Quant.cb (gCol t C))) (Quant.cl (gCol t C))
  exact congrArg _ (Fin.ext (by show C.val % 128 = (1792 * (t.val / 28 % 2) + C.val) % 128; omega))

theorem scales_tile (c : Dev nD) (t : Fin cfg0.N) (r : Fin 896) (l : Fin 28) :
    sclOf m c t r l = Quant.outScales (argX m c) (argY m c) (argE m c) (ix2 (gRow t r) l) := by
  have hl := l.isLt
  have hv : (endPt t l).val = t.val / 56 * 56 + 28 * (l.val / 14) + 27 := rfl
  unfold sclOf
  rw [sclT_apply, tblk_eq m c (endPt t l) (by omega) r _ l (by show l.val = 14 * ((endPt t l).val / 28 % 2) + l.val % 14; omega)]
  have e : gRow (endPt t l) r = gRow t r := Fin.ext (by show 896 * ((endPt t l).val / 56 % 4) + _ = 896 * (t.val / 56 % 4) + _; omega)
  rw [e]
  rfl

/-! ## Elements of the outputs' blocks -/

theorem emb3 (t : Fin cfg0.N) (r : Fin 896) (C : Fin 1792) :
    ((win0_3.rect t).emb (ix2 r C) : S3584x3584.Idx) = ix2 (gRow t r) (gCol t C) := by
  refine Shape.idx_ext₂ ?_ ?_
  · refine (Pipeline.Window.rect_emb_val win0_3 t (ix2 r C) 0).trans ?_
    rw [idx3_0]
    show t.val / 56 % 4 * 896 + r.val = 896 * (t.val / 56 % 4) + r.val
    rw [Nat.mul_comm]
  · refine (Pipeline.Window.rect_emb_val win0_3 t (ix2 r C) 1).trans ?_
    rw [idx3_1]
    show t.val / 28 % 2 * 1792 + C.val = 1792 * (t.val / 28 % 2) + C.val
    rw [Nat.mul_comm]

theorem emb5 (t : Fin cfg0.N) (r : Fin 896) (C : Fin 1792) :
    ((win0_5.rect t).emb (ix2 r C) : S3584x3584.Idx) = ix2 (gRow t r) (gCol t C) := by
  refine Shape.idx_ext₂ ?_ ?_
  · refine (Pipeline.Window.rect_emb_val win0_5 t (ix2 r C) 0).trans ?_
    rw [idx5_0]
    show t.val / 56 % 4 * 896 + r.val = 896 * (t.val / 56 % 4) + r.val
    rw [Nat.mul_comm]
  · refine (Pipeline.Window.rect_emb_val win0_5 t (ix2 r C) 1).trans ?_
    rw [idx5_1]
    show t.val / 28 % 2 * 1792 + C.val = 1792 * (t.val / 28 % 2) + C.val
    rw [Nat.mul_comm]

theorem emb4 (t : Fin cfg0.N) (r : Fin 896) (l : Fin 28) :
    ((win0_4.rect t).emb (ix2 r l) : S3584x28.Idx) = ix2 (gRow t r) l := by
  refine Shape.idx_ext₂ ?_ ?_
  · refine (Pipeline.Window.rect_emb_val win0_4 t (ix2 r l) 0).trans ?_
    rw [idx4_0]
    show t.val / 56 % 4 * 896 + r.val = 896 * (t.val / 56 % 4) + r.val
    rw [Nat.mul_comm]
  · refine (Pipeline.Window.rect_emb_val win0_4 t (ix2 r l) 1).trans ?_
    rw [idx4_1]
    show 0 * 28 + l.val = l.val
    omega

/-- The point that writes back the tile of codes that holds an index. -/
def ptOf (I : Fin 3584) (J : Fin 3584) : Fin cfg0.N :=
  ⟨56 * (I.val / 896) + 28 * (J.val / 1792) + 27, lt_of_lt_of_eq (by omega : _ < 224) (show cfg0.N = 224 from N_0).symm⟩
/-- The point that writes back the tile of scales that holds a row. -/
def ptOfS (I : Fin 3584) : Fin cfg0.N :=
  ⟨56 * (I.val / 896) + 55, lt_of_lt_of_eq (by omega : _ < 224) (show cfg0.N = 224 from N_0).symm⟩

/-- An element under a rectangle's index map is in the rectangle. -/
theorem mem_of_emb {s : Shape} (R : Rect s) (x : R.shape.Idx) (i : s.Idx) (h : R.emb x = i) : i ∈ R.set := by
  rw [← Rect.map_emb_univ, ← h]
  exact Finset.mem_map_of_mem _ (Finset.mem_univ x)

theorem gRow_pt (I : Fin 3584) (t : Fin cfg0.N) (h : t.val / 56 % 4 = I.val / 896) : gRow t (⟨I.val % 896, by omega⟩ : Fin 896) = I :=
  Fin.ext (by show 896 * (t.val / 56 % 4) + I.val % 896 = I.val; omega)
theorem gCol_pt (J : Fin 3584) (t : Fin cfg0.N) (h : t.val / 28 % 2 = J.val / 1792) : gCol t (⟨J.val % 1792, by omega⟩ : Fin 1792) = J :=
  Fin.ext (by show 1792 * (t.val / 28 % 2) + J.val % 1792 = J.val; omega)

theorem cover3 (i : S3584x3584.Idx) : ∃ t : Fin cfg0.N, (cfg0.win 3).flush t = true ∧ i ∈ ((cfg0.win 3).blk t).view.set := by
  obtain ⟨I, hI⟩ : ∃ I : Fin 3584, I = i 0 := ⟨_, rfl⟩
  obtain ⟨J, hJ⟩ : ∃ J : Fin 3584, J = i 1 := ⟨_, rfl⟩
  have hi : i = ix2 I J := (eq_ix2 (n0 := 3584) (n1 := 3584) i).trans (by subst hI hJ; rfl)
  have hp : (ptOf I J).val = 56 * (I.val / 896) + 28 * (J.val / 1792) + 27 := rfl
  refine ⟨ptOf I J, (flush0_3 _).mpr (by omega), ?_⟩
  show i ∈ ((View.whole main_v0_0).slice (win0_3.rect (ptOf I J))).set
  rw [View.set_slice_whole]
  refine mem_of_emb _ (ix2 (⟨I.val % 896, by omega⟩ : Fin 896) (⟨J.val % 1792, by omega⟩ : Fin 1792)) _ ((emb3 _ _ _).trans ?_)
  rw [gRow_pt I _ (by omega), gCol_pt J _ (by omega), hi]

theorem cover5 (i : S3584x3584.Idx) : ∃ t : Fin cfg0.N, (cfg0.win 5).flush t = true ∧ i ∈ ((cfg0.win 5).blk t).view.set := by
  obtain ⟨I, hI⟩ : ∃ I : Fin 3584, I = i 0 := ⟨_, rfl⟩
  obtain ⟨J, hJ⟩ : ∃ J : Fin 3584, J = i 1 := ⟨_, rfl⟩
  have hi : i = ix2 I J := (eq_ix2 (n0 := 3584) (n1 := 3584) i).trans (by subst hI hJ; rfl)
  have hp : (ptOf I J).val = 56 * (I.val / 896) + 28 * (J.val / 1792) + 27 := rfl
  refine ⟨ptOf I J, (flush0_5 _).mpr (by omega), ?_⟩
  show i ∈ ((View.whole main_v0_2).slice (win0_5.rect (ptOf I J))).set
  rw [View.set_slice_whole]
  refine mem_of_emb _ (ix2 (⟨I.val % 896, by omega⟩ : Fin 896) (⟨J.val % 1792, by omega⟩ : Fin 1792)) _ ((emb5 _ _ _).trans ?_)
  rw [gRow_pt I _ (by omega), gCol_pt J _ (by omega), hi]

theorem cover4 (i : S3584x28.Idx) : ∃ t : Fin cfg0.N, (cfg0.win 4).flush t = true ∧ i ∈ ((cfg0.win 4).blk t).view.set := by
  obtain ⟨I, hI⟩ : ∃ I : Fin 3584, I = i 0 := ⟨_, rfl⟩
  obtain ⟨J, hJ⟩ : ∃ J : Fin 28, J = i 1 := ⟨_, rfl⟩
  have hi : i = ix2 I J := (eq_ix2 (n0 := 3584) (n1 := 28) i).trans (by subst hI hJ; rfl)
  have hp : (ptOfS I).val = 56 * (I.val / 896) + 55 := rfl
  refine ⟨ptOfS I, (flush0_4 _).mpr (by omega), ?_⟩
  show i ∈ ((View.whole main_v0_1).slice (win0_4.rect (ptOfS I))).set
  rw [View.set_slice_whole]
  refine mem_of_emb _ (ix2 (⟨I.val % 896, by omega⟩ : Fin 896) J) _ ((emb4 _ _ _).trans ?_)
  rw [gRow_pt I _ (by omega), hi]

/-! ## The arrays at the end -/

section Final
variable (c : Dev nD) (after : (w : Fin cfg0.W) → Fin cfg0.N → (cfg0.win w).block.Idx → Elt Ideal (cfg0.win w).elt)
  (hL : ∀ (w : Fin cfg0.W) (u : Fin cfg0.N), (cfg0.win w).flush u = true → (rdats m c).Leaves w u (after w u))
include hL

theorem flushed3 (t : Fin cfg0.N) (hf : (cfg0.win 3).flush t = true) :
    ((rdats m c).withAfter after).flushed 3 t = ((cfg0.win 3).blk t).view.read (Elt Ideal) (Quant.outCodes (argX m c) (argY m c) (argE m c)) := by
  have hl := (dats m c).toRRel_leaves (fgt := held) (Rl := Left m c) (w := 3) rfl (hL 3 t hf)
  have hm := (flush0_3 t).mp hf
  funext y
  obtain ⟨r, hr⟩ : ∃ r : Fin 896, r = y 0 := ⟨_, rfl⟩
  obtain ⟨l, hl'⟩ : ∃ l : Fin 1792, l = y 1 := ⟨_, rfl⟩
  have hy : y = ix2 r l := (eq_ix2 (n0 := 896) (n1 := 1792) y).trans (by subst hr hl'; rfl)
  rw [hy]
  show after 3 t (ix2 r l) = Quant.outCodes (argX m c) (argY m c) (argE m c) ((win0_3.rect t).emb (ix2 r l))
  refine Eq.trans ?_ (congrArg _ (emb3 t r l).symm)
  exact (congrFun (hl hm) (ix2 r l)).trans (codes_tile m c t hm r l)

theorem flushed5 (t : Fin cfg0.N) (hf : (cfg0.win 5).flush t = true) :
    ((rdats m c).withAfter after).flushed 5 t = ((cfg0.win 5).blk t).view.read (Elt Ideal) (Quant.outResid (argX m c) (argY m c) (argE m c)) := by
  have hl := (dats m c).toRRel_leaves (fgt := held) (Rl := Left m c) (w := 5) rfl (hL 5 t hf)
  have hm := (flush0_5 t).mp hf
  funext y
  obtain ⟨r, hr⟩ : ∃ r : Fin 896, r = y 0 := ⟨_, rfl⟩
  obtain ⟨l, hl'⟩ : ∃ l : Fin 1792, l = y 1 := ⟨_, rfl⟩
  have hy : y = ix2 r l := (eq_ix2 (n0 := 896) (n1 := 1792) y).trans (by subst hr hl'; rfl)
  rw [hy]
  show after 5 t (ix2 r l) = Quant.outResid (argX m c) (argY m c) (argE m c) ((win0_5.rect t).emb (ix2 r l))
  refine Eq.trans ?_ (congrArg _ (emb5 t r l).symm)
  exact (congrFun (hl hm) (ix2 r l)).trans (resid_tile m c t hm r l)

theorem flushed4 (t : Fin cfg0.N) (hf : (cfg0.win 4).flush t = true) :
    ((rdats m c).withAfter after).flushed 4 t = ((cfg0.win 4).blk t).view.read (Elt Ideal) (Quant.outScales (argX m c) (argY m c) (argE m c)) := by
  have hl := (dats m c).toRRel_leaves (fgt := held) (Rl := Left m c) (w := 4) rfl (hL 4 t hf)
  have hm := (flush0_4 t).mp hf
  funext y
  obtain ⟨r, hr⟩ : ∃ r : Fin 896, r = y 0 := ⟨_, rfl⟩
  obtain ⟨l, hl'⟩ : ∃ l : Fin 28, l = y 1 := ⟨_, rfl⟩
  have hy : y = ix2 r l := (eq_ix2 (n0 := 896) (n1 := 28) y).trans (by subst hr hl'; rfl)
  rw [hy]
  have hv := (hl r l (by have := l.isLt; omega)).trans (scales_tile m c t r l)
  generalize Quant.outScales (argX m c) (argY m c) (argE m c) = G at hv ⊢
  have e : ((cfg0.win 4).blk t).view.read (Elt Ideal) G (ix2 r l) = G ((win0_4.rect t).emb (ix2 r l)) := rfl
  refine Eq.trans ?_ (e.trans (congrArg G (emb4 t r l))).symm
  exact hv

theorem final3 : ((rdats m c).withAfter after).arrAt 3 cfg0.N = Quant.outCodes (argX m c) (argY m c) (argE m c) :=
  ((rdats m c).withAfter after).arrAt_eq_of_cover 3 _ (flushed3 m c after hL) cover3

theorem final4 : ((rdats m c).withAfter after).arrAt 4 cfg0.N = Quant.outScales (argX m c) (argY m c) (argE m c) :=
  ((rdats m c).withAfter after).arrAt_eq_of_cover 4 _ (flushed4 m c after hL) cover4

theorem final5 : ((rdats m c).withAfter after).arrAt 5 cfg0.N = Quant.outResid (argX m c) (argY m c) (argE m c) :=
  ((rdats m c).withAfter after).arrAt_eq_of_cover 5 _ (flushed5 m c after hL) cover5

end Final

/-- The idealized kernel ends, its results are the codes, scales and errors of its arguments, its arguments are as they were. -/
theorem run_value : θ_run defs (onTc (τ := τ) (main (F := Ideal))) ⟨m, fun _ => 0, ρ⟩ (fun r => ∀ c : Dev nD,
      r.2.mem ((c.tc : Thread nD τ).loc main_v0_0) = Quant.outCodes (argX m c) (argY m c) (argE m c)
      ∧ r.2.mem ((c.tc : Thread nD τ).loc main_v0_1) = Quant.outScales (argX m c) (argY m c) (argE m c)
      ∧ r.2.mem ((c.tc : Thread nD τ).loc main_v0_2) = Quant.outResid (argX m c) (argY m c) (argE m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  obtain ⟨after, hL, hA⟩ := Pipeline.RDat.FramePost.exists_exact h c
  exact ⟨(hA 3).trans (final3 m c after hL), (hA 4).trans (final4 m c after hL), (hA 5).trans (final5 m c after hL),
    (Pipeline.RDat.FramePost.arr_in h c 0 rfl).trans ((A_eq m c 0).trans (V_main_arg0 m c)),
    (Pipeline.RDat.FramePost.arr_in h c 1 rfl).trans ((A_eq m c 1).trans (V_main_arg1 m c)),
    (Pipeline.RDat.FramePost.arr_in h c 2 rfl).trans ((A_eq m c 2).trans (V_main_arg2 m c))⟩

end Cert.KernelIdeal.Gen
end
-- ==== Proof.RQuant.lean ====
/- The reference's quantiser over the whole array, read at an index. -/
module

public import proofs.«01_k».proof.Proof.Gen.ReferenceIdeal.Skeleton
public import proofs.«01_k».proof.Proof.Quant

@[expose] public section
set_option maxRecDepth 16384
noncomputable section
namespace Cert.ReferenceIdeal.Gen

open Idealize.ShloMosaic Idealize.ShloMosaic.TcCoe
open Idealize.ShloMosaic.ValueIdx

variable (v : Vec Ideal S3584x3584 .f32)

/-- The 128 numbers of block `b` of row `i`. -/
def rblk (i : Fin 3584) (b : Fin 28) : Fin 128 → Quant.R :=
  fun k => v (ix2 i (⟨128 * b.val + k.val, by omega⟩ : Fin 3584))

/-- Column `C` is lane `C % 128` of block `C / 128`. -/
theorem lin_eq (i : Fin 3584) (C : Fin 3584) :
    (S3584x28x128.rowMajor (ix3 i (⟨C.val / 128, by omega⟩ : Fin 28) (⟨C.val % 128, by omega⟩ : Fin 128))).val
      = (S3584x3584.rowMajor (ix2 i C)).val := by
  rw [Shape.rowMajor_val_two, Shape.rowMajor_val_three]
  show (i.val * 28 + C.val / 128) * 128 + C.val % 128 = i.val * 3584 + C.val
  omega

theorem lin_eq' (i : Fin 3584) (b : Fin 28) (k : Fin 128) :
    (S3584x3584.rowMajor (ix2 i (⟨128 * b.val + k.val, by omega⟩ : Fin 3584))).val
      = (S3584x28x128.rowMajor (ix3 i b k)).val := by
  rw [Shape.rowMajor_val_two, Shape.rowMajor_val_three]
  show i.val * 3584 + (128 * b.val + k.val) = (i.val * 28 + b.val) * 128 + k.val
  omega

theorem pay2_apply (i : Fin 3584) (b : Fin 28) (k : Fin 128) : k0_pay2 v (ix3 i b k) = rblk v i b k := by
  unfold k0_pay2 k0_pay1
  rw [shapeCast_self]
  exact shapeCast_apply _ _ _ _ (lin_eq' i b k)

theorem absk (P : FVec Ideal S3584x28x128 .f32) (z : S3584x28x128.Idx) : absf P z = FloatOps.absf (P z) := rfl

/-- The scale at an index, from the block's largest absolute value there. -/
theorem scale_at (M : FVec Ideal S3584x28 .f32) (z : S3584x28.Idx) :
    select (cmpf .oeq M (broadcast S3584x28 (Scalar.ofBits .f32 0x00000000#32 : Quant.R))) (broadcast S3584x28 (Scalar.ofBits .f32 0x3F800000#32 : Quant.R))
        (divf M (broadcast S3584x28 (Scalar.ofBits .f32 0x42FE0000#32 : Quant.R))) z
      = Scalar.select (FloatOps.cmpf .oeq (M z) (Scalar.ofBits .f32 0x00000000#32 : Quant.R)) (Scalar.ofBits .f32 0x3F800000#32 : Quant.R)
          (FloatOps.divf (M z) (Scalar.ofBits .f32 0x42FE0000#32 : Quant.R)) := rfl

theorem pay3_apply (i : Fin 3584) (b : Fin 28) : k0_pay3 v (ix2 i b) = Quant.scl (rblk v i b) := by
  have e : (multiReduction .maximumf [2] S3584x28 (absf (k0_pay2 v)) 0xFF800000#32 reduces_S3584x28x128_S3584x28 (.inl rfl) rfl :
      FVec Ideal S3584x28 .f32) (ix2 i b) = Quant.amax (rblk v i b) := by
    refine (Ideal.multiReduction_maximumf_single _ _ _ _ _ _).trans ?_
    unfold Quant.amax
    congr 1
    funext k
    refine ((absk (k0_pay2 v) _).trans (congrArg (fun z => FloatOps.absf (k0_pay2 v z)) ?_)).trans (congrArg FloatOps.absf (pay2_apply v i b k))
    funext a
    match a with
    | ⟨0, _⟩ => rfl
    | ⟨1, _⟩ => rfl
    | ⟨2, _⟩ => rfl
  unfold Quant.scl
  rw [← e]
  exact scale_at _ _

theorem bcast_apply (i : Fin 3584) (b : Fin 28) (k : Fin 128) :
    broadcastTo S3584x28x128 (shapeCast S3584x28x1 (k0_pay3 v) shapeCasts_S3584x28_S3584x28x1) broadcasts_S3584x28x1_S3584x28x128 (ix3 i b k)
      = Quant.scl (rblk v i b) := by
  rw [← pay3_apply]
  refine (broadcastTo_apply _ _ (ix3 i b k) (ix3 i b (0 : Fin 1)) fun a => by
      match a with
      | ⟨0, _⟩ => rfl
      | ⟨1, _⟩ => rfl
      | ⟨2, _⟩ => rfl).trans ?_
  refine shapeCast_apply _ _ _ _ ?_
  rw [Shape.rowMajor_val_two, Shape.rowMajor_val_three]
  show i.val * 28 + b.val = (i.val * 28 + b.val) * 1 + 0
  omega

/-- The codes before the last reshape. -/
def codes3 : IVec S3584x28x128 8 :=
  fptosi 8 (minimumf (broadcast S3584x28x128 (Scalar.ofBits .f32 0x42FE0000#32)) (maximumf (broadcast S3584x28x128 (Scalar.ofBits .f32 0xC2FE0000#32))
    (roundeven (divf (k0_pay2 v) (broadcastTo S3584x28x128 (shapeCast S3584x28x1 (k0_pay3 v) shapeCasts_S3584x28_S3584x28x1) broadcasts_S3584x28x1_S3584x28x128)))))

/-- The code at an index, from the number and the scale there. -/
theorem code_at (P B : FVec Ideal S3584x28x128 .f32) (z : S3584x28x128.Idx) :
    fptosi 8 (minimumf (broadcast S3584x28x128 (Scalar.ofBits .f32 0x42FE0000#32 : Quant.R))
        (maximumf (broadcast S3584x28x128 (Scalar.ofBits .f32 0xC2FE0000#32 : Quant.R)) (roundeven (divf P B)))) z
      = FloatOps.fptosi 8 (Quant.rc (FloatOps.divf (P z) (B z))) := rfl

theorem codes3_apply (i : Fin 3584) (b : Fin 28) (k : Fin 128) : codes3 v (ix3 i b k) = Quant.cod (rblk v i b) k := by
  unfold Quant.cod Quant.clp
  rw [← bcast_apply, ← pay2_apply]
  exact code_at _ _ _

theorem deq_at (K : IVec S3584x28x128 8) (B : FVec Ideal S3584x28x128 .f32) (z : S3584x28x128.Idx) :
    mulf (sitofp .f32 K) B z = FloatOps.mulf (FloatOps.sitofp .f32 (K z)) (B z) := rfl

theorem sub_at (A B : FVec Ideal S3584x3584 .f32) (z : S3584x3584.Idx) : subf A B z = FloatOps.subf (A z) (B z) := rfl

theorem pay4_eq : k0_pay4 v = shapeCast S3584x3584 (codes3 v) shapeCasts_S3584x28x128_S3584x3584 := rfl

theorem pay4_apply (i C : Fin 3584) :
    k0_pay4 v (ix2 i C) = Quant.cod (rblk v i ⟨C.val / 128, by omega⟩) ⟨C.val % 128, by omega⟩ := by
  rw [pay4_eq, ← codes3_apply]
  exact shapeCast_apply _ _ _ _ (lin_eq i C)

theorem pay5_apply (i C : Fin 3584) :
    k0_pay5 v (ix2 i C) = Quant.res (rblk v i ⟨C.val / 128, by omega⟩) ⟨C.val % 128, by omega⟩ := by
  have hv : k0_pay1 v (ix2 i C) = rblk v i ⟨C.val / 128, by omega⟩ ⟨C.val % 128, by omega⟩ := by
    unfold k0_pay1 rblk
    rw [shapeCast_self]
    exact congrArg v (Shape.idx_ext₂ rfl (by show C.val = 128 * (C.val / 128) + C.val % 128; omega))
  have hc : (shapeCast S3584x28x128 (k0_pay4 v) shapeCasts_S3584x3584_S3584x28x128) = codes3 v := by
    rw [pay4_eq, shapeCast_shapeCast]
  have e : (shapeCast S3584x3584 (mulf (sitofp .f32 (codes3 v)) (broadcastTo S3584x28x128 (shapeCast S3584x28x1 (k0_pay3 v) shapeCasts_S3584x28_S3584x28x1)
      broadcasts_S3584x28x1_S3584x28x128)) shapeCasts_S3584x28x128_S3584x3584 : FVec Ideal S3584x3584 .f32) (ix2 i C)
      = FloatOps.mulf (Quant.clp (rblk v i ⟨C.val / 128, by omega⟩) ⟨C.val % 128, by omega⟩) (Quant.scl (rblk v i ⟨C.val / 128, by omega⟩)) := by
    refine (shapeCast_apply _ _ _ _ (lin_eq i C)).trans ?_
    rw [deq_at, bcast_apply, codes3_apply]
    unfold Quant.cod Quant.clp
    rw [Quant.round_trip]
  unfold k0_pay5 Quant.res
  rw [hc, ← e, ← hv]
  exact sub_at _ _ _

end Cert.ReferenceIdeal.Gen
end
-- ==== Proof.RFinal.lean ====
/- The reference's three results. -/
module

public import proofs.«01_k».proof.Proof.Gen.ReferenceIdeal.Value
public import proofs.«01_k».proof.Proof.RQuant
public import proofs.«01_k».proof.Proof.Grad

@[expose] public section
set_option maxRecDepth 16384
noncomputable section
namespace Cert.ReferenceIdeal.Gen

open Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The first argument. -/
abbrev argX (c : Dev nD) : (⟨2, ![28672, 3584]⟩ : Shape).Idx → EReal := m ((c.tc : Thread nD τ).loc main_arg0)
/-- The second. -/
abbrev argY (c : Dev nD) : (⟨2, ![28672, 3584]⟩ : Shape).Idx → EReal := m ((c.tc : Thread nD τ).loc main_arg1)
/-- The third. -/
abbrev argE (c : Dev nD) : (⟨2, ![3584, 3584]⟩ : Shape).Idx → EReal := m ((c.tc : Thread nD τ).loc main_arg2)
/-- The array that is quantised. -/
abbrev vR (c : Dev nD) : (⟨2, ![3584, 3584]⟩ : Shape).Idx → Quant.R := Quant.vAll (argX m c) (argY m c) (argE m c)

/-! ## The host's lines -/

abbrev DR := dot_S28672x3584_S28672x3584_S3584x3584_0_0_1_1_n_n

theorem dr_l0 (j : S3584x3584.Idx) (k : DR.contr.Idx) : (DR.lhsIdx j k 0 : ℕ) = k ⟨0, by decide⟩ := by
  simp [DotDims.lhsIdx, DR, dot_S28672x3584_S28672x3584_S3584x3584_0_0_1_1_n_n]; rfl
theorem dr_l1 (j : S3584x3584.Idx) (k : DR.contr.Idx) : (DR.lhsIdx j k 1 : ℕ) = j 0 := by
  simp [DotDims.lhsIdx, DR, dot_S28672x3584_S28672x3584_S3584x3584_0_0_1_1_n_n]; rfl
theorem dr_r0 (j : S3584x3584.Idx) (k : DR.contr.Idx) : (DR.rhsIdx j k 0 : ℕ) = k ⟨0, by decide⟩ := by
  simp [DotDims.rhsIdx, DR, dot_S28672x3584_S28672x3584_S3584x3584_0_0_1_1_n_n]; rfl
theorem dr_r1 (j : S3584x3584.Idx) (k : DR.contr.Idx) : (DR.rhsIdx j k 1 : ℕ) = j 1 := by
  simp [DotDims.rhsIdx, DR, dot_S28672x3584_S28672x3584_S3584x3584_0_0_1_1_n_n]; rfl

theorem dr_rank : DR.contr.rank = 1 := rfl
theorem dr_size : DR.contr.size ⟨0, by decide⟩ = 28672 := rfl

/-- The host's product at an index. -/
theorem host_dot (x y : FVec Ideal S28672x3584 .bf16) (I J : Fin 3584) :
    (Host.dotGeneral (F := Ideal) (φ₁ := .bf16) (φ₂ := .bf16) DR none x y (ix2 I J) : EReal) = Quant.grad x y I J := by
  refine (Ideal.dotGeneral_apply (φ₁ := .bf16) (φ₂ := .bf16) DR none _ x y (ix2 I J)).trans ?_
  refine (Equiv.sum_comp (contrEquiv1 DR 28672 dr_rank dr_size).symm _).symm.trans ?_
  refine Finset.sum_congr rfl fun a _ => ?_
  have e := contrEquiv1_symm_val DR 28672 dr_rank dr_size a
  exact congrArg₂ (fun p q : EReal => p * q)
    (congrArg x (Shape.idx_ext₂ ((dr_l0 _ _).trans e) (dr_l1 _ _)))
    (congrArg y (Shape.idx_ext₂ ((dr_r0 _ _).trans e) (dr_r1 _ _)))

theorem entry_eq {F : FTy → Type} [FloatOps F] (m : (ℓ : Loc nD τ sig) → Buf (Elt F) ℓ) (c : Dev nD) :
    V m c main_v1 = (addf (Host.dotGeneral (φ₁ := .bf16) (φ₂ := .bf16) DR none (m ((c.tc : Thread nD τ).loc main_arg0)) (m ((c.tc : Thread nD τ).loc main_arg1)) : FVec F S3584x3584 .f32)
      (m ((c.tc : Thread nD τ).loc main_arg2)) : FVec F S3584x3584 .f32) := by
  entry_read
  rfl

theorem entry_value (c : Dev nD) : V m c main_v1 = vR m c := by
  rw [entry_eq]
  funext z
  obtain ⟨I, hI⟩ : ∃ I : Fin 3584, I = z 0 := ⟨_, rfl⟩
  obtain ⟨J, hJ⟩ : ∃ J : Fin 3584, J = z 1 := ⟨_, rfl⟩
  have hz : z = ix2 I J := (eq_ix2 (n0 := 3584) (n1 := 3584) z).trans (by subst hI hJ; rfl)
  rw [hz]
  exact congrArg (fun p : EReal => p + argE m c (ix2 I J)) (host_dot _ _ I J)

/-! ## The one block of each window -/

theorem ix0 : ∀ (t : Fin cfg0.N) (a : Fin 2), win0_0.index t a = 0 := (by decide +kernel : ∀ (t : Fin grid0.N) (a : Fin 2), win0_0.index t a = 0)
theorem ix1' : ∀ (t : Fin cfg0.N) (a : Fin 2), win0_1.index t a = 0 := (by decide +kernel : ∀ (t : Fin grid0.N) (a : Fin 2), win0_1.index t a = 0)
theorem ix2' : ∀ (t : Fin cfg0.N) (a : Fin 2), win0_2.index t a = 0 := (by decide +kernel : ∀ (t : Fin grid0.N) (a : Fin 2), win0_2.index t a = 0)
theorem ix3' : ∀ (t : Fin cfg0.N) (a : Fin 2), win0_3.index t a = 0 := (by decide +kernel : ∀ (t : Fin grid0.N) (a : Fin 2), win0_3.index t a = 0)

theorem emb0 (t : Fin cfg0.N) (I : Fin 3584) (J : Fin 3584) : ((win0_0.rect t).emb (ix2 I J) : S3584x3584.Idx) = ix2 I J := by
  refine Shape.idx_ext₂ ?_ ?_
  · refine (Pipeline.Window.rect_emb_val win0_0 t (ix2 I J) 0).trans ?_
    rw [ix0, Nat.zero_mul, Nat.zero_add]
    rfl
  · refine (Pipeline.Window.rect_emb_val win0_0 t (ix2 I J) 1).trans ?_
    rw [ix0, Nat.zero_mul, Nat.zero_add]
    rfl

theorem emb1 (t : Fin cfg0.N) (I : Fin 3584) (J : Fin 3584) : ((win0_1.rect t).emb (ix2 I J) : S3584x3584.Idx) = ix2 I J := by
  refine Shape.idx_ext₂ ?_ ?_
  · refine (Pipeline.Window.rect_emb_val win0_1 t (ix2 I J) 0).trans ?_
    rw [ix1', Nat.zero_mul, Nat.zero_add]
    rfl
  · refine (Pipeline.Window.rect_emb_val win0_1 t (ix2 I J) 1).trans ?_
    rw [ix1', Nat.zero_mul, Nat.zero_add]
    rfl

theorem emb2 (t : Fin cfg0.N) (I : Fin 3584) (J : Fin 28) : ((win0_2.rect t).emb (ix2 I J) : S3584x28.Idx) = ix2 I J := by
  refine Shape.idx_ext₂ ?_ ?_
  · refine (Pipeline.Window.rect_emb_val win0_2 t (ix2 I J) 0).trans ?_
    rw [ix2', Nat.zero_mul, Nat.zero_add]
    rfl
  · refine (Pipeline.Window.rect_emb_val win0_2 t (ix2 I J) 1).trans ?_
    rw [ix2', Nat.zero_mul, Nat.zero_add]
    rfl

theorem emb3 (t : Fin cfg0.N) (I : Fin 3584) (J : Fin 3584) : ((win0_3.rect t).emb (ix2 I J) : S3584x3584.Idx) = ix2 I J := by
  refine Shape.idx_ext₂ ?_ ?_
  · refine (Pipeline.Window.rect_emb_val win0_3 t (ix2 I J) 0).trans ?_
    rw [ix3', Nat.zero_mul, Nat.zero_add]
    rfl
  · refine (Pipeline.Window.rect_emb_val win0_3 t (ix2 I J) 1).trans ?_
    rw [ix3', Nat.zero_mul, Nat.zero_add]
    rfl

/-- The input block is the array. -/
theorem iblk_eq (c : Dev nD) (t : Fin cfg0.N) : (iblk m c 0 t : S3584x3584.Idx → Quant.R) = vR m c := by
  have hV : V m c (Pipeline.arrRef spec0 0) = vR m c := entry_value m c
  unfold iblk
  rw [hV]
  generalize vR m c = G
  funext z
  obtain ⟨I, hI⟩ : ∃ I : Fin 3584, I = z 0 := ⟨_, rfl⟩
  obtain ⟨J, hJ⟩ : ∃ J : Fin 3584, J = z 1 := ⟨_, rfl⟩
  have hz : z = ix2 I J := (eq_ix2 (n0 := 3584) (n1 := 3584) z).trans (by subst hI hJ; rfl)
  rw [hz]
  have e : ((cfg0.win 0).blk t).view.read (Elt Ideal) G (ix2 I J) = G ((win0_0.rect t).emb (ix2 I J)) := rfl
  exact e.trans (congrArg G (emb0 t I J))

theorem hz2 : (![0, 0] : Fin 2 → Nat) = fun _ => 0 := funext fun a => by fin_cases a <;> rfl

theorem out1_apply (v : Vec Ideal S3584x3584 .f32) (I J : Fin 3584) : out0_1 v (ix2 I J) = Quant.cod (Quant.blkOf v I (Quant.cb J)) (Quant.cl J) := by
  unfold out0_1
  rw [View.canon_unit_zero hz2, View.ld_unit_zero hz2]
  exact pay4_apply v I J

theorem out2_apply (v : Vec Ideal S3584x3584 .f32) (I : Fin 3584) (b : Fin 28) : out0_2 v (ix2 I b) = Quant.scl (Quant.blkOf v I b) := by
  unfold out0_2
  rw [View.canon_unit_zero hz2, View.ld_unit_zero hz2]
  exact pay3_apply v I b

theorem out3_apply (v : Vec Ideal S3584x3584 .f32) (I J : Fin 3584) : out0_3 v (ix2 I J) = Quant.res (Quant.blkOf v I (Quant.cb J)) (Quant.cl J) := by
  unfold out0_3
  rw [View.canon_unit_zero hz2, View.ld_unit_zero hz2]
  exact pay5_apply v I J

/-! ## The arrays at the end -/

theorem flushed1 (c : Dev nD) (t : Fin cfg0.N) :
    (dats m 0 c).flushed 1 t = ((cfg0.win 1).blk t).view.read (Elt Ideal) (Quant.outCodes (argX m c) (argY m c) (argE m c)) := by
  refine (Value.flushed1 m c t).trans ?_
  funext y
  obtain ⟨I, hI⟩ : ∃ I : Fin 3584, I = y 0 := ⟨_, rfl⟩
  obtain ⟨J, hJ⟩ : ∃ J : Fin 3584, J = y 1 := ⟨_, rfl⟩
  have hy : y = ix2 I J := (eq_ix2 (n0 := 3584) (n1 := 3584) y).trans (by subst hI hJ; rfl)
  rw [hy]
  have hv : out0_1 (iblk m c 0 t) (ix2 I J) = Quant.outCodes (argX m c) (argY m c) (argE m c) (ix2 I J) :=
    (congrArg (fun v => out0_1 v (ix2 I J)) (iblk_eq m c t)).trans (out1_apply (vR m c) I J)
  generalize Quant.outCodes (argX m c) (argY m c) (argE m c) = G at hv ⊢
  generalize out0_1 (iblk m c 0 t) = O at hv ⊢
  have e : ((cfg0.win 1).blk t).view.read (Elt Ideal) G (ix2 I J) = G ((win0_1.rect t).emb (ix2 I J)) := rfl
  refine Eq.trans ?_ (e.trans (congrArg G (emb1 t I J))).symm
  exact hv

theorem cover1 (i : S3584x3584.Idx) : ∃ t : Fin cfg0.N, (cfg0.win 1).flush t = true ∧ i ∈ ((cfg0.win 1).blk t).view.set := by
  obtain ⟨I, hI⟩ : ∃ I : Fin 3584, I = i 0 := ⟨_, rfl⟩
  obtain ⟨J, hJ⟩ : ∃ J : Fin 3584, J = i 1 := ⟨_, rfl⟩
  have hi : i = ix2 I J := (eq_ix2 (n0 := 3584) (n1 := 3584) i).trans (by subst hI hJ; rfl)
  obtain ⟨t, ht⟩ : ∃ t : Fin cfg0.N, t = (⟨0, by decide⟩ : Fin grid0.N) := ⟨_, rfl⟩
  refine ⟨t, flush0_1 t, ?_⟩
  show i ∈ ((View.whole main_v2_0).slice (win0_1.rect t)).set
  rw [View.set_slice_whole, ← Rect.map_emb_univ, hi, ← emb1 t I J]
  exact Finset.mem_map_of_mem _ (Finset.mem_univ _)

theorem final1 (c : Dev nD) : (dats m 0 c).arrAt 1 cfg0.N = Quant.outCodes (argX m c) (argY m c) (argE m c) :=
  (dats m 0 c).arrAt_eq_of_cover 1 _ (fun t _ => flushed1 m c t) cover1

theorem flushed2 (c : Dev nD) (t : Fin cfg0.N) :
    (dats m 0 c).flushed 2 t = ((cfg0.win 2).blk t).view.read (Elt Ideal) (Quant.outScales (argX m c) (argY m c) (argE m c)) := by
  refine (Value.flushed2 m c t).trans ?_
  funext y
  obtain ⟨I, hI⟩ : ∃ I : Fin 3584, I = y 0 := ⟨_, rfl⟩
  obtain ⟨J, hJ⟩ : ∃ J : Fin 28, J = y 1 := ⟨_, rfl⟩
  have hy : y = ix2 I J := (eq_ix2 (n0 := 3584) (n1 := 28) y).trans (by subst hI hJ; rfl)
  rw [hy]
  have hv : out0_2 (iblk m c 0 t) (ix2 I J) = Quant.outScales (argX m c) (argY m c) (argE m c) (ix2 I J) :=
    (congrArg (fun v => out0_2 v (ix2 I J)) (iblk_eq m c t)).trans (out2_apply (vR m c) I J)
  generalize Quant.outScales (argX m c) (argY m c) (argE m c) = G at hv ⊢
  generalize out0_2 (iblk m c 0 t) = O at hv ⊢
  have e : ((cfg0.win 2).blk t).view.read (Elt Ideal) G (ix2 I J) = G ((win0_2.rect t).emb (ix2 I J)) := rfl
  refine Eq.trans ?_ (e.trans (congrArg G (emb2 t I J))).symm
  exact hv

theorem cover2 (i : S3584x28.Idx) : ∃ t : Fin cfg0.N, (cfg0.win 2).flush t = true ∧ i ∈ ((cfg0.win 2).blk t).view.set := by
  obtain ⟨I, hI⟩ : ∃ I : Fin 3584, I = i 0 := ⟨_, rfl⟩
  obtain ⟨J, hJ⟩ : ∃ J : Fin 28, J = i 1 := ⟨_, rfl⟩
  have hi : i = ix2 I J := (eq_ix2 (n0 := 3584) (n1 := 28) i).trans (by subst hI hJ; rfl)
  obtain ⟨t, ht⟩ : ∃ t : Fin cfg0.N, t = (⟨0, by decide⟩ : Fin grid0.N) := ⟨_, rfl⟩
  refine ⟨t, flush0_2 t, ?_⟩
  show i ∈ ((View.whole main_v2_1).slice (win0_2.rect t)).set
  rw [View.set_slice_whole, ← Rect.map_emb_univ, hi, ← emb2 t I J]
  exact Finset.mem_map_of_mem _ (Finset.mem_univ _)

theorem final2 (c : Dev nD) : (dats m 0 c).arrAt 2 cfg0.N = Quant.outScales (argX m c) (argY m c) (argE m c) :=
  (dats m 0 c).arrAt_eq_of_cover 2 _ (fun t _ => flushed2 m c t) cover2

theorem flushed3 (c : Dev nD) (t : Fin cfg0.N) :
    (dats m 0 c).flushed 3 t = ((cfg0.win 3).blk t).view.read (Elt Ideal) (Quant.outResid (argX m c) (argY m c) (argE m c)) := by
  refine (Value.flushed3 m c t).trans ?_
  funext y
  obtain ⟨I, hI⟩ : ∃ I : Fin 3584, I = y 0 := ⟨_, rfl⟩
  obtain ⟨J, hJ⟩ : ∃ J : Fin 3584, J = y 1 := ⟨_, rfl⟩
  have hy : y = ix2 I J := (eq_ix2 (n0 := 3584) (n1 := 3584) y).trans (by subst hI hJ; rfl)
  rw [hy]
  have hv : out0_3 (iblk m c 0 t) (ix2 I J) = Quant.outResid (argX m c) (argY m c) (argE m c) (ix2 I J) :=
    (congrArg (fun v => out0_3 v (ix2 I J)) (iblk_eq m c t)).trans (out3_apply (vR m c) I J)
  generalize Quant.outResid (argX m c) (argY m c) (argE m c) = G at hv ⊢
  generalize out0_3 (iblk m c 0 t) = O at hv ⊢
  have e : ((cfg0.win 3).blk t).view.read (Elt Ideal) G (ix2 I J) = G ((win0_3.rect t).emb (ix2 I J)) := rfl
  refine Eq.trans ?_ (e.trans (congrArg G (emb3 t I J))).symm
  exact hv

theorem cover3 (i : S3584x3584.Idx) : ∃ t : Fin cfg0.N, (cfg0.win 3).flush t = true ∧ i ∈ ((cfg0.win 3).blk t).view.set := by
  obtain ⟨I, hI⟩ : ∃ I : Fin 3584, I = i 0 := ⟨_, rfl⟩
  obtain ⟨J, hJ⟩ : ∃ J : Fin 3584, J = i 1 := ⟨_, rfl⟩
  have hi : i = ix2 I J := (eq_ix2 (n0 := 3584) (n1 := 3584) i).trans (by subst hI hJ; rfl)
  obtain ⟨t, ht⟩ : ∃ t : Fin cfg0.N, t = (⟨0, by decide⟩ : Fin grid0.N) := ⟨_, rfl⟩
  refine ⟨t, flush0_3 t, ?_⟩
  show i ∈ ((View.whole main_v2_2).slice (win0_3.rect t)).set
  rw [View.set_slice_whole, ← Rect.map_emb_univ, hi, ← emb3 t I J]
  exact Finset.mem_map_of_mem _ (Finset.mem_univ _)

theorem final3 (c : Dev nD) : (dats m 0 c).arrAt 3 cfg0.N = Quant.outResid (argX m c) (argY m c) (argE m c) :=
  (dats m 0 c).arrAt_eq_of_cover 3 _ (fun t _ => flushed3 m c t) cover3

/-- The reference ends, its results are the codes, scales and errors of its arguments, its arguments are as they were. -/
theorem run_value : θ_run defs (onTc (τ := τ) (main (F := Ideal))) ⟨m, fun _ => 0, ρ⟩ (fun r => ∀ c : Dev nD,
      r.2.mem ((c.tc : Thread nD τ).loc main_v2_0) = Quant.outCodes (argX m c) (argY m c) (argE m c)
      ∧ r.2.mem ((c.tc : Thread nD τ).loc main_v2_1) = Quant.outScales (argX m c) (argY m c) (argE m c)
      ∧ r.2.mem ((c.tc : Thread nD τ).loc main_v2_2) = Quant.outResid (argX m c) (argY m c) (argE m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final1 m c), (h c).2.1.trans (final2 m c), (h c).2.2.1.trans (final3 m c), (h c).2.2.2⟩)
    (Value.run_blocks m ρ)

end Cert.ReferenceIdeal.Gen
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.Gen.ReferenceIdeal.Value
public import proofs.«01_k».proof.Proof.KFrame
public import proofs.«01_k».proof.Proof.KIFrame
public import proofs.«01_k».proof.Proof.KFinal
public import proofs.«01_k».proof.Proof.RFinal

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Fr.frame m ρ, fun m ρ _ => Cert.KernelIdeal.Gen.frame m ρ, fun m ρ _ => Cert.ReferenceIdeal.Gen.frame m ρ, trivial,
  fun m g m' g' _ hag => by
    have hx : ∀ c, Cert.ReferenceIdeal.Gen.argX m' c = Cert.KernelIdeal.Gen.argX m c := fun c => (hag c).1
    have hy : ∀ c, Cert.ReferenceIdeal.Gen.argY m' c = Cert.KernelIdeal.Gen.argY m c := fun c => (hag c).2.1
    have he : ∀ c, Cert.ReferenceIdeal.Gen.argE m' c = Cert.KernelIdeal.Gen.argE m c := fun c => (hag c).2.2
    refine ⟨fun c => Cert.Quant.outCodes (Cert.KernelIdeal.Gen.argX m c) (Cert.KernelIdeal.Gen.argY m c) (Cert.KernelIdeal.Gen.argE m c),
      fun c => Cert.Quant.outScales (Cert.KernelIdeal.Gen.argX m c) (Cert.KernelIdeal.Gen.argY m c) (Cert.KernelIdeal.Gen.argE m c),
      fun c => Cert.Quant.outResid (Cert.KernelIdeal.Gen.argX m c) (Cert.KernelIdeal.Gen.argY m c) (Cert.KernelIdeal.Gen.argE m c),
      Cert.KernelIdeal.Gen.run_value m g, ?_⟩
    refine (θ_run _ _ _).mono (fun r h c => ?_) (Cert.ReferenceIdeal.Gen.run_value m' g')
    have h' := h c
    exact ⟨h'.1.trans (by rw [hx, hy, he]), h'.2.1.trans (by rw [hx, hy, he]), h'.2.2.1.trans (by rw [hx, hy, he]), h'.2.2.2⟩⟩

end Cert.Proof

end
